-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bins_span_two_blocks [hPre_bins_span_two_blocks : Cert.Pre_bins_span_two_blocks.Facts] (m : (ℓ : Loc Cert.KernelIdeal.nD Cert.KernelIdeal.τ Cert.KernelIdeal.sig) → Buf (Elt Ideal) ℓ) : Prop :=
  ∀ c : Dev Cert.KernelIdeal.nD,
    (Cert.Pre_bins_span_two_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bins_span_two_blocks [hPre_bins_span_two_blocks : Cert.Pre_bins_span_two_blocks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bins_span_two_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bins_span_two_blocks [hKernelIdeal : Cert.KernelIdeal.Facts] [hPre_bins_span_two_blocks : Cert.Pre_bins_span_two_blocks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bins_span_two_blocks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bins_span_two_blocks [hReferenceIdeal : Cert.ReferenceIdeal.Facts] [hPre_bins_span_two_blocks : Cert.Pre_bins_span_two_blocks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bins_span_two_blocks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bins_span_two_blocks [hKernelIdeal : Cert.KernelIdeal.Facts] [hReferenceIdeal : Cert.ReferenceIdeal.Facts] [hPre_bins_span_two_blocks : Cert.Pre_bins_span_two_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bins_span_two_blocks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bins_span_two_blocks : Cert.Pre_bins_span_two_blocks.Facts),
    quiescent_Kernel (hKernel := hKernel)
    ∧ quiescent_KernelIdeal (hKernelIdeal := hKernelIdeal)
    ∧ quiescent_KernelIdeal_pre_bins_span_two_blocks (hKernelIdeal := hKernelIdeal) (hPre_bins_span_two_blocks := hPre_bins_span_two_blocks)
    ∧ quiescent_ReferenceIdeal (hReferenceIdeal := hReferenceIdeal)
    ∧ quiescent_ReferenceIdeal_pre_bins_span_two_blocks (hReferenceIdeal := hReferenceIdeal) (hPre_bins_span_two_blocks := hPre_bins_span_two_blocks)
    ∧ preserves_Kernel_KernelIdeal
    ∧ algebraic_KernelIdeal_ReferenceIdeal_pre_bins_span_two_blocks (hKernelIdeal := hKernelIdeal) (hReferenceIdeal := hReferenceIdeal) (hPre_bins_span_two_blocks := hPre_bins_span_two_blocks)
-- ==== Pre_bins_span_two_blocks.lean ====
abbrev S49x1024x1024 : Shape := ⟨3, ![49, 1024, 1024]⟩
abbrev S4 : Shape := ⟨1, ![4]⟩
abbrev S1 : Shape := ⟨1, ![1]⟩
abbrev S_ : Shape := ⟨0, ![]⟩

class Facts : Prop where
  slices_S4_S1_2 : S4.Slices ![2] S1
  shapeCasts_S1_S_ : S1.ShapeCasts S_
  slices_S4_S1_3 : S4.Slices ![3] S1

variable [Facts]

def fn {F : FTy → Type} [FloatOps F] (main_arg0 : FVec F S49x1024x1024 .f32) (main_arg1 : FVec F S4 .f32) : IVec S_ 1 :=
  let main_v0 : FVec F S1 .f32 := (extractStridedSlice S1 ![2] · slices_S4_S1_2) main_arg1
  let main_v1 : FVec F S_ .f32 := shapeCast S_ main_v0 shapeCasts_S1_S_
  let main_cst : FVec F S_ .f32 := constant S_ .f32 0x3F600000#32
  let main_v2 : IVec S_ 1 := cmpf .ole main_v1 main_cst
  let main_v3 : FVec F S1 .f32 := (extractStridedSlice S1 ![3] · slices_S4_S1_3) main_arg1
  let main_v4 : FVec F S_ .f32 := shapeCast S_ main_v3 shapeCasts_S1_S_
  let main_cst_0 : FVec F S_ .f32 := constant S_ .f32 0x3F600000#32
  let main_v5 : IVec S_ 1 := cmpf .ole main_v4 main_cst_0
  let main_v6 : IVec S_ 1 := andi main_v2 main_v5
  main_v6
-- ==== Kernel.lean ====
abbrev S49x1024x1024 : Shape := ⟨3, ![49, 1024, 1024]⟩
abbrev S4 : Shape := ⟨1, ![4]⟩
abbrev S1 : Shape := ⟨1, ![1]⟩
abbrev S_ : Shape := ⟨0, ![]⟩
abbrev S8 : Shape := ⟨1, ![8]⟩
abbrev S9 : Shape := ⟨1, ![9]⟩
abbrev S7 : Shape := ⟨1, ![7]⟩
abbrev S1x7 : Shape := ⟨2, ![1, 7]⟩
abbrev S6x7 : Shape := ⟨2, ![6, 7]⟩
abbrev S49x8x128 : Shape := ⟨3, ![49, 8, 128]⟩
abbrev S1x128x128 : Shape := ⟨3, ![1, 128, 128]⟩
abbrev S1x1 : Shape := ⟨2, ![1, 1]⟩
abbrev S1x8x128 : Shape := ⟨3, ![1, 8, 128]⟩
abbrev S8x128 : Shape := ⟨2, ![8, 128]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S1x1x1 : Shape := ⟨3, ![1, 1, 1]⟩
abbrev S49x1x1 : Shape := ⟨3, ![49, 1, 1]⟩
abbrev S49 : Shape := ⟨1, ![49]⟩
abbrev S7x7 : Shape := ⟨2, ![7, 7]⟩
abbrev S7x1 : Shape := ⟨2, ![7, 1]⟩

abbrev nBuf : Space → Nat
  | .hbm => 198
  | .vmem => 5
  | .smem => 1
  | _ => 0

abbrev hbmTy0_0 (i : Nat) : BufTy := match i % 128 with
  | 0 => ⟨S49x1024x1024, .f32⟩
  | 1 => ⟨S4, .f32⟩
  | 2 => ⟨S1, .f32⟩
  | 3 => ⟨S_, .f32⟩
  | 4 => ⟨S1, .f32⟩
  | 5 => ⟨S_, .f32⟩
  | 6 => ⟨S1, .f32⟩
  | 7 => ⟨S_, .f32⟩
  | 8 => ⟨S1, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S8, .f32⟩
  | 26 => ⟨S_, .f32⟩
  | 27 => ⟨S8, .f32⟩
  | 28 => ⟨S8, .f32⟩
  | 29 => ⟨S1, .f32⟩
  | 30 => ⟨S_, .f32⟩
  | 31 => ⟨S8, .f32⟩
  | 32 => ⟨S8, .f32⟩
  | 33 => ⟨S8, .f32⟩
  | 34 => ⟨S8, .f32⟩
  | 35 => ⟨S1, .f32⟩
  | 36 => ⟨S8, .f32⟩
  | 37 => ⟨S8, .f32⟩
  | 38 => ⟨S8, .f32⟩
  | 39 => ⟨S1, .f32⟩
  | 40 => ⟨S9, .f32⟩
  | 41 => ⟨S7, .f32⟩
  | 42 => ⟨S_, .f32⟩
  | 43 => ⟨S_, .f32⟩
  | 44 => ⟨S_, .f32⟩
  | 45 => ⟨S8, .f32⟩
  | 46 => ⟨S_, .f32⟩
  | 47 => ⟨S8, .f32⟩
  | 48 => ⟨S8, .f32⟩
  | 49 => ⟨S1, .f32⟩
  | 50 => ⟨S_, .f32⟩
  | 51 => ⟨S8, .f32⟩
  | 52 => ⟨S8, .f32⟩
  | 53 => ⟨S8, .f32⟩
  | 54 => ⟨S8, .f32⟩
  | 55 => ⟨S1, .f32⟩
  | 56 => ⟨S8, .f32⟩
  | 57 => ⟨S8, .f32⟩
  | 58 => ⟨S8, .f32⟩
  | 59 => ⟨S1, .f32⟩
  | 60 => ⟨S9, .f32⟩
  | 61 => ⟨S7, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S7, .f32⟩
  | 69 => ⟨S7, .f32⟩
  | 70 => ⟨S_, .f32⟩
  | 71 => ⟨S7, .f32⟩
  | 72 => ⟨S7, .f32⟩
  | 73 => ⟨S7, .f32⟩
  | 74 => ⟨S7, .i32⟩
  | 75 => ⟨S_, .f32⟩
  | 76 => ⟨S_, .f32⟩
  | 77 => ⟨S7, .f32⟩
  | 78 => ⟨S7, .f32⟩
  | 79 => ⟨S_, .f32⟩
  | 80 => ⟨S7, .f32⟩
  | 81 => ⟨S7, .f32⟩
  | 82 => ⟨S7, .f32⟩
  | 83 => ⟨S7, .i32⟩
  | 84 => ⟨S_, .f32⟩
  | 85 => ⟨S_, .f32⟩
  | 86 => ⟨S7, .f32⟩
  | 87 => ⟨S7, .f32⟩
  | 88 => ⟨S_, .f32⟩
  | 89 => ⟨S7, .f32⟩
  | 90 => ⟨S7, .f32⟩
  | 91 => ⟨S7, .f32⟩
  | 92 => ⟨S7, .i32⟩
  | 93 => ⟨S_, .f32⟩
  | 94 => ⟨S_, .f32⟩
  | 95 => ⟨S7, .f32⟩
  | 96 => ⟨S7, .f32⟩
  | 97 => ⟨S_, .f32⟩
  | 98 => ⟨S7, .f32⟩
  | 99 => ⟨S7, .f32⟩
  | 100 => ⟨S7, .f32⟩
  | 101 => ⟨S7, .i32⟩
  | 102 => ⟨S_, .i32⟩
  | 103 => ⟨S_, .i32⟩
  | 104 => ⟨S7, .i32⟩
  | 105 => ⟨S7, .i32⟩
  | 106 => ⟨S7, .i32⟩
  | 107 => ⟨S_, .i32⟩
  | 108 => ⟨S7, .i32⟩
  | 109 => ⟨S7, .i1⟩
  | 110 => ⟨S7, .i32⟩
  | 111 => ⟨S7, .i32⟩
  | 112 => ⟨S_, .i32⟩
  | 113 => ⟨S7, .i32⟩
  | 114 => ⟨S7, .i1⟩
  | 115 => ⟨S7, .i1⟩
  | 116 => ⟨S_, .i32⟩
  | 117 => ⟨S7, .i32⟩
  | 118 => ⟨S7, .i32⟩
  | 119 => ⟨S7, .i32⟩
  | 120 => ⟨S_, .i32⟩
  | 121 => ⟨S_, .i32⟩
  | 122 => ⟨S_, .i32⟩
  | 123 => ⟨S7, .i32⟩
  | 124 => ⟨S7, .i32⟩
  | 125 => ⟨S_, .i32⟩
  | 126 => ⟨S7, .i32⟩
  | 127 => ⟨S7, .i32⟩
  | _ => ⟨S49x1024x1024, .f32⟩

abbrev hbmTy0_1 (i : Nat) : BufTy := match i % 128 with
  | 0 => ⟨S_, .i32⟩
  | 1 => ⟨S_, .i32⟩
  | 2 => ⟨S7, .i32⟩
  | 3 => ⟨S7, .i32⟩
  | 4 => ⟨S7, .i32⟩
  | 5 => ⟨S_, .i32⟩
  | 6 => ⟨S7, .i32⟩
  | 7 => ⟨S7, .i1⟩
  | 8 => ⟨S7, .i32⟩
  | 9 => ⟨S7, .i32⟩
  | 10 => ⟨S_, .i32⟩
  | 11 => ⟨S7, .i32⟩
  | 12 => ⟨S7, .i1⟩
  | 13 => ⟨S7, .i1⟩
  | 14 => ⟨S_, .i32⟩
  | 15 => ⟨S7, .i32⟩
  | 16 => ⟨S7, .i32⟩
  | 17 => ⟨S7, .i32⟩
  | 18 => ⟨S_, .i32⟩
  | 19 => ⟨S_, .i32⟩
  | 20 => ⟨S_, .i32⟩
  | 21 => ⟨S7, .i32⟩
  | 22 => ⟨S7, .i32⟩
  | 23 => ⟨S_, .i32⟩
  | 24 => ⟨S7, .i32⟩
  | 25 => ⟨S7, .i32⟩
  | 26 => ⟨S1x7, .i32⟩
  | 27 => ⟨S1x7, .i32⟩
  | 28 => ⟨S1x7, .i32⟩
  | 29 => ⟨S1x7, .i32⟩
  | 30 => ⟨S1x7, .i32⟩
  | 31 => ⟨S1x7, .i32⟩
  | 32 => ⟨S49x8x128, .f32⟩
  | 33 => ⟨S49x1x1, .f32⟩
  | 34 => ⟨S49, .f32⟩
  | 35 => ⟨S7x7, .f32⟩
  | 36 => ⟨S_, .i32⟩
  | 37 => ⟨S7, .i32⟩
  | 38 => ⟨S7, .i32⟩
  | 39 => ⟨S_, .i32⟩
  | 40 => ⟨S7, .i32⟩
  | 41 => ⟨S7, .i32⟩
  | 42 => ⟨S7, .i32⟩
  | 43 => ⟨S_, .i32⟩
  | 44 => ⟨S_, .i32⟩
  | 45 => ⟨S7, .i32⟩
  | 46 => ⟨S7, .i32⟩
  | 47 => ⟨S7, .f32⟩
  | 48 => ⟨S_, .i32⟩
  | 49 => ⟨S7, .i32⟩
  | 50 => ⟨S7, .i32⟩
  | 51 => ⟨S_, .i32⟩
  | 52 => ⟨S7, .i32⟩
  | 53 => ⟨S7, .i32⟩
  | 54 => ⟨S7, .i32⟩
  | 55 => ⟨S_, .i32⟩
  | 56 => ⟨S_, .i32⟩
  | 57 => ⟨S7, .i32⟩
  | 58 => ⟨S7, .i32⟩
  | 59 => ⟨S7, .f32⟩
  | 60 => ⟨S7x1, .f32⟩
  | 61 => ⟨S1x7, .f32⟩
  | 62 => ⟨S7x7, .f32⟩
  | 63 => ⟨S7x7, .f32⟩
  | 64 => ⟨S7x7, .f32⟩
  | 65 => ⟨S7x7, .f32⟩
  | 66 => ⟨S_, .f32⟩
  | 67 => ⟨S_, .f32⟩
  | 68 => ⟨S_, .f32⟩
  | 69 => ⟨S_, .f32⟩
  | _ => ⟨S49x1024x1024, .f32⟩

abbrev hbmTy (i : Nat) : BufTy := match i / 128 with
  | 0 => hbmTy0_0 i
  | 1 => hbmTy0_1 i
  | _ => ⟨S49x1024x1024, .f32⟩

abbrev bufTy : (tb : Table) → Fin (tcTables nBuf tb) → BufTy
  | .hbm, ⟨i, _⟩ => hbmTy i
  | .local _ .vmem, ⟨0, _⟩ => ⟨S1x128x128, .f32⟩
  | .local _ .vmem, ⟨1, _⟩ => ⟨S1x128x128, .f32⟩
  | .local _ .vmem, ⟨2, _⟩ => ⟨S1x8x128, .f32⟩
  | .local _ .vmem, ⟨3, _⟩ => ⟨S1x8x128, .f32⟩
  | .local _ .vmem, ⟨4, _⟩ => ⟨S8x128, .f32⟩
  | .local _ .smem, ⟨0, _⟩ => ⟨S6x7, .i32⟩
  | _, _ => ⟨S49x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_call0_cst_0 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v16 : Ref sig .tc := ⟨.hbm, 40, rfl⟩
abbrev main_v17 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_call1_cst_0 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_cst_1 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v18 : Ref sig .tc := ⟨.hbm, 60, rfl⟩
abbrev main_v19 : Ref sig .tc := ⟨.hbm, 61, rfl⟩
abbrev main_cst_3 : Ref sig .tc := ⟨.hbm, 62, rfl⟩
abbrev main_v20 : Ref sig .tc := ⟨.hbm, 63, rfl⟩
abbrev main_cst_4 : Ref sig .tc := ⟨.hbm, 64, rfl⟩
abbrev main_v21 : Ref sig .tc := ⟨.hbm, 65, rfl⟩
abbrev main_cst_5 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_cst_6 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst_7 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_8 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_9 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_10 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_11 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_12 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_c : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_c : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_0 : Ref sig .tc := ⟨.hbm, 116, rfl⟩
abbrev main_call2_v12 : Ref sig .tc := ⟨.hbm, 117, rfl⟩
abbrev main_call2_v13 : Ref sig .tc := ⟨.hbm, 118, rfl⟩
abbrev main_v50 : Ref sig .tc := ⟨.hbm, 119, rfl⟩
abbrev main_c_13 : Ref sig .tc := ⟨.hbm, 120, rfl⟩
abbrev main_c_14 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_v51 : Ref sig .tc := ⟨.hbm, 127, rfl⟩
abbrev main_c_15 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_c : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_c_0 : Ref sig .tc := ⟨.hbm, 142, rfl⟩
abbrev main_call4_v12 : Ref sig .tc := ⟨.hbm, 143, rfl⟩
abbrev main_call4_v13 : Ref sig .tc := ⟨.hbm, 144, rfl⟩
abbrev main_v52 : Ref sig .tc := ⟨.hbm, 145, rfl⟩
abbrev main_c_16 : Ref sig .tc := ⟨.hbm, 146, rfl⟩
abbrev main_c_17 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_v53 : Ref sig .tc := ⟨.hbm, 153, rfl⟩
abbrev main_v54 : Ref sig .tc := ⟨.hbm, 154, rfl⟩
abbrev main_v55 : Ref sig .tc := ⟨.hbm, 155, rfl⟩
abbrev main_v56 : Ref sig .tc := ⟨.hbm, 156, rfl⟩
abbrev main_v57 : Ref sig .tc := ⟨.hbm, 157, rfl⟩
abbrev main_v58 : Ref sig .tc := ⟨.hbm, 158, rfl⟩
abbrev main_v59 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_c_18 : Ref sig .tc := ⟨.hbm, 164, rfl⟩
abbrev main_v65 : Ref sig .tc := ⟨.hbm, 165, rfl⟩
abbrev main_v66 : Ref sig .tc := ⟨.hbm, 166, rfl⟩
abbrev main_c_19 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_c_20 : Ref sig .tc := ⟨.hbm, 171, rfl⟩
abbrev main_call6_v0 : Ref sig .tc := ⟨.hbm, 172, rfl⟩
abbrev main_call6_v1 : Ref sig .tc := ⟨.hbm, 173, rfl⟩
abbrev main_v70 : Ref sig .tc := ⟨.hbm, 174, rfl⟩
abbrev main_v71 : Ref sig .tc := ⟨.hbm, 175, rfl⟩
abbrev main_c_21 : Ref sig .tc := ⟨.hbm, 176, rfl⟩
abbrev main_v72 : Ref sig .tc := ⟨.hbm, 177, rfl⟩
abbrev main_v73 : Ref sig .tc := ⟨.hbm, 178, rfl⟩
abbrev main_c_22 : Ref sig .tc := ⟨.hbm, 179, rfl⟩
abbrev main_v74 : Ref sig .tc := ⟨.hbm, 180, rfl⟩
abbrev main_v75 : Ref sig .tc := ⟨.hbm, 181, rfl⟩
abbrev main_v76 : Ref sig .tc := ⟨.hbm, 182, rfl⟩
abbrev main_c_23 : Ref sig .tc := ⟨.hbm, 183, rfl⟩
abbrev main_call7_v0 : Ref sig .tc := ⟨.hbm, 184, rfl⟩
abbrev main_call7_v1 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_cst_24 : Ref sig .tc := ⟨.hbm, 194, rfl⟩
abbrev main_v85 : Ref sig .tc := ⟨.hbm, 195, rfl⟩
abbrev main_cst_25 : Ref sig .tc := ⟨.hbm, 196, rfl⟩
abbrev main_v86 : Ref sig .tc := ⟨.hbm, 197, rfl⟩
abbrev main_v60 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![49, 2, 2], ![false, false, false]⟩

abbrev pre0 : Pipeline.Prefetch sig := ⟨1, ![main_v60.idx], fun | 0 => main_v60.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c7_i32 : BitVec 32 := 7#32
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let v0 : BitVec 32 := Scalar.divsi arg0 c7_i32
  let c1_i32 : BitVec 32 := 1#32
  let v15 : BitVec 32 := Scalar.subi v0 c1_i32
  let v16 : BitVec 32 := Scalar.select v14 v15 v0
  let v17 : Index := Scalar.indexCast v16
  ![0, v17.toNat]
def k0_off2 (i : grid0.Coords) : Fin 2 → Nat :=
  let c1 : Index := 1#32
  let arg0 : BitVec 32 := BitVec.ofNat 32 (i 0).val
  let c7_i32_5 : BitVec 32 := 7#32
  let c0_i32_6 : BitVec 32 := 0#32
  let v21 : BitVec 1 := Scalar.cmpi .eq c7_i32_5 c0_i32_6
  let c1_i32_7 : BitVec 32 := 1#32
  let v22 : BitVec 32 := Scalar.select v21 c1_i32_7 c7_i32_5
  let v23 : BitVec 32 := Scalar.remsi arg0 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let v31 : Index := Scalar.indexCast v30
  ![1, v31.toNat]
def k0_off3 (i : grid0.Coords) : Fin 2 → Nat :=
  let c2 : Index := 2#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c7_i32 : BitVec 32 := 7#32
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let v0 : BitVec 32 := Scalar.divsi arg0 c7_i32
  let c1_i32 : BitVec 32 := 1#32
  let v15 : BitVec 32 := Scalar.subi v0 c1_i32
  let v16 : BitVec 32 := Scalar.select v14 v15 v0
  let v35 : Index := Scalar.indexCast v16
  ![2, v35.toNat]
def k0_off4 (i : grid0.Coords) : Fin 2 → Nat :=
  let c3 : Index := 3#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c7_i32 : BitVec 32 := 7#32
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let v0 : BitVec 32 := Scalar.divsi arg0 c7_i32
  let c1_i32 : BitVec 32 := 1#32
  let v15 : BitVec 32 := Scalar.subi v0 c1_i32
  let v16 : BitVec 32 := Scalar.select v14 v15 v0
  let v37 : Index := Scalar.indexCast v16
  ![3, v37.toNat]
def k0_off5 (i : grid0.Coords) : Fin 2 → Nat :=
  let c4 : Index := 4#32
  let arg0 : BitVec 32 := BitVec.ofNat 32 (i 0).val
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v39 : Index := Scalar.indexCast v26
  ![4, v39.toNat]
def k0_off6 (i : grid0.Coords) : Fin 2 → Nat :=
  let c5 : Index := 5#32
  let arg0 : BitVec 32 := BitVec.ofNat 32 (i 0).val
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v41 : Index := Scalar.indexCast v26
  ![5, v41.toNat]
def k0_cond2 (i : grid0.Coords) : BitVec 1 :=
  let arg2 : BitVec 32 := BitVec.ofNat 32 (i 2).val
  let c1_i32_29 : BitVec 32 := 1#32
  let v99 : BitVec 1 := Scalar.cmpi .eq arg2 c1_i32_29
  let arg1 : BitVec 32 := BitVec.ofNat 32 (i 1).val
  let c0_i32_30 : BitVec 32 := 0#32
  let v100 : BitVec 1 := Scalar.cmpi .eq arg1 c0_i32_30
  let v101 : BitVec 1 := Scalar.andi v99 v100
  let v102 : BitVec 32 := Scalar.extui v101
  let c0_i32_31 : BitVec 32 := 0#32
  let v103 : BitVec 1 := Scalar.cmpi .ne v102 c0_i32_31
  v103

def k0_cond3 (i : grid0.Coords) : BitVec 1 :=
  let arg2 : BitVec 32 := BitVec.ofNat 32 (i 2).val
  let c1_i32_32 : BitVec 32 := 1#32
  let v104 : BitVec 1 := Scalar.cmpi .eq arg2 c1_i32_32
  let arg1 : BitVec 32 := BitVec.ofNat 32 (i 1).val
  let c1_i32_33 : BitVec 32 := 1#32
  let v105 : BitVec 1 := Scalar.cmpi .eq arg1 c1_i32_33
  let v106 : BitVec 1 := Scalar.andi v104 v105
  let v107 : BitVec 32 := Scalar.extui v106
  let c0_i32_34 : BitVec 32 := 0#32
  let v108 : BitVec 1 := Scalar.cmpi .ne v107 c0_i32_34
  v108

def cc0_transform_0 (k0_off1_inb : ∀ i : grid0.Coords, ∀ a, (k0_off1 i) a + S1x1.size a ≤ S6x7.size a) (numel1_S1x1 : S1x1.numel = 1) (k0_off2_inb : ∀ i : grid0.Coords, ∀ a, (k0_off2 i) a + S1x1.size a ≤ S6x7.size a) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : Index := Scalar.indexCast v16
  let v18 : BitVec 32 := pf.at 0 (Rect.unit (s := S6x7) ![0, v17.toNat] S1x1.size (k0_off1_inb i)) numel1_S1x1
  let v19 : BitVec 32 := Scalar.addi v18 arg2
  let c7_i32_4 : BitVec 32 := 7#32
  let v20 : BitVec 32 := Scalar.minsi v19 c7_i32_4
  let c7_i32_5 : BitVec 32 := 7#32
  let c0_i32_6 : BitVec 32 := 0#32
  let v21 : BitVec 1 := Scalar.cmpi .eq c7_i32_5 c0_i32_6
  let c1_i32_7 : BitVec 32 := 1#32
  let v22 : BitVec 32 := Scalar.select v21 c1_i32_7 c7_i32_5
  let v23 : BitVec 32 := Scalar.remsi arg0 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c1 : Index := 1#32
  let v31 : Index := Scalar.indexCast v30
  let v32 : BitVec 32 := pf.at 0 (Rect.unit (s := S6x7) ![1, v31.toNat] S1x1.size (k0_off2_inb i)) numel1_S1x1
  let v33 : BitVec 32 := Scalar.addi v32 arg1
  let c7_i32_11 : BitVec 32 := 7#32
  let v34 : BitVec 32 := Scalar.minsi v33 c7_i32_11
  let c0_i32_12 : BitVec 32 := 0#32
  ![arg0.toNat, v20.toNat, v34.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]
-- ==== ReferenceIdeal.lean ====
abbrev S49x1024x1024 : Shape := ⟨3, ![49, 1024, 1024]⟩
abbrev S4 : Shape := ⟨1, ![4]⟩
abbrev S1 : Shape := ⟨1, ![1]⟩
abbrev S_ : Shape := ⟨0, ![]⟩
abbrev S8 : Shape := ⟨1, ![8]⟩
abbrev S9 : Shape := ⟨1, ![9]⟩
abbrev S7 : Shape := ⟨1, ![7]⟩
abbrev S1024 : Shape := ⟨1, ![1024]⟩
abbrev S1x1024 : Shape := ⟨2, ![1, 1024]⟩
abbrev S7x1 : Shape := ⟨2, ![7, 1]⟩
abbrev S7x1024 : Shape := ⟨2, ![7, 1024]⟩
abbrev S7x7x1024x1024 : Shape := ⟨4, ![7, 7, 1024, 1024]⟩
abbrev S7x7x1024 : Shape := ⟨3, ![7, 7, 1024]⟩
abbrev S7x7 : Shape := ⟨2, ![7, 7]⟩
abbrev S1x7 : Shape := ⟨2, ![1, 7]⟩

abbrev nBuf : Space → Nat
  | .hbm => 142
  | .vmem => 0
  | .smem => 0
  | _ => 0

abbrev hbmTy0_0 (i : Nat) : BufTy := match i % 128 with
  | 0 => ⟨S49x1024x1024, .f32⟩
  | 1 => ⟨S4, .f32⟩
  | 2 => ⟨S1, .f32⟩
  | 3 => ⟨S_, .f32⟩
  | 4 => ⟨S1, .f32⟩
  | 5 => ⟨S_, .f32⟩
  | 6 => ⟨S1, .f32⟩
  | 7 => ⟨S_, .f32⟩
  | 8 => ⟨S1, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S8, .f32⟩
  | 26 => ⟨S_, .f32⟩
  | 27 => ⟨S8, .f32⟩
  | 28 => ⟨S8, .f32⟩
  | 29 => ⟨S1, .f32⟩
  | 30 => ⟨S_, .f32⟩
  | 31 => ⟨S8, .f32⟩
  | 32 => ⟨S8, .f32⟩
  | 33 => ⟨S8, .f32⟩
  | 34 => ⟨S8, .f32⟩
  | 35 => ⟨S1, .f32⟩
  | 36 => ⟨S8, .f32⟩
  | 37 => ⟨S8, .f32⟩
  | 38 => ⟨S8, .f32⟩
  | 39 => ⟨S1, .f32⟩
  | 40 => ⟨S9, .f32⟩
  | 41 => ⟨S7, .f32⟩
  | 42 => ⟨S_, .f32⟩
  | 43 => ⟨S_, .f32⟩
  | 44 => ⟨S_, .f32⟩
  | 45 => ⟨S8, .f32⟩
  | 46 => ⟨S_, .f32⟩
  | 47 => ⟨S8, .f32⟩
  | 48 => ⟨S8, .f32⟩
  | 49 => ⟨S1, .f32⟩
  | 50 => ⟨S_, .f32⟩
  | 51 => ⟨S8, .f32⟩
  | 52 => ⟨S8, .f32⟩
  | 53 => ⟨S8, .f32⟩
  | 54 => ⟨S8, .f32⟩
  | 55 => ⟨S1, .f32⟩
  | 56 => ⟨S8, .f32⟩
  | 57 => ⟨S8, .f32⟩
  | 58 => ⟨S8, .f32⟩
  | 59 => ⟨S1, .f32⟩
  | 60 => ⟨S9, .f32⟩
  | 61 => ⟨S7, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S7, .f32⟩
  | 69 => ⟨S7, .f32⟩
  | 70 => ⟨S_, .f32⟩
  | 71 => ⟨S7, .f32⟩
  | 72 => ⟨S7, .f32⟩
  | 73 => ⟨S7, .f32⟩
  | 74 => ⟨S_, .f32⟩
  | 75 => ⟨S_, .f32⟩
  | 76 => ⟨S7, .f32⟩
  | 77 => ⟨S7, .f32⟩
  | 78 => ⟨S_, .f32⟩
  | 79 => ⟨S7, .f32⟩
  | 80 => ⟨S7, .f32⟩
  | 81 => ⟨S7, .f32⟩
  | 82 => ⟨S_, .f32⟩
  | 83 => ⟨S_, .f32⟩
  | 84 => ⟨S7, .f32⟩
  | 85 => ⟨S7, .f32⟩
  | 86 => ⟨S_, .f32⟩
  | 87 => ⟨S7, .f32⟩
  | 88 => ⟨S7, .f32⟩
  | 89 => ⟨S7, .f32⟩
  | 90 => ⟨S_, .f32⟩
  | 91 => ⟨S_, .f32⟩
  | 92 => ⟨S7, .f32⟩
  | 93 => ⟨S7, .f32⟩
  | 94 => ⟨S_, .f32⟩
  | 95 => ⟨S7, .f32⟩
  | 96 => ⟨S7, .f32⟩
  | 97 => ⟨S7, .f32⟩
  | 98 => ⟨S1024, .f32⟩
  | 99 => ⟨S1024, .f32⟩
  | 100 => ⟨S1x1024, .f32⟩
  | 101 => ⟨S7x1, .f32⟩
  | 102 => ⟨S7x1024, .f32⟩
  | 103 => ⟨S7x1024, .f32⟩
  | 104 => ⟨S7x1024, .i1⟩
  | 105 => ⟨S1x1024, .f32⟩
  | 106 => ⟨S7x1, .f32⟩
  | 107 => ⟨S7x1024, .f32⟩
  | 108 => ⟨S7x1024, .f32⟩
  | 109 => ⟨S7x1024, .i1⟩
  | 110 => ⟨S7x1024, .i1⟩
  | 111 => ⟨S7x1024, .f32⟩
  | 112 => ⟨S1x1024, .f32⟩
  | 113 => ⟨S7x1, .f32⟩
  | 114 => ⟨S7x1024, .f32⟩
  | 115 => ⟨S7x1024, .f32⟩
  | 116 => ⟨S7x1024, .i1⟩
  | 117 => ⟨S1x1024, .f32⟩
  | 118 => ⟨S7x1, .f32⟩
  | 119 => ⟨S7x1024, .f32⟩
  | 120 => ⟨S7x1024, .f32⟩
  | 121 => ⟨S7x1024, .i1⟩
  | 122 => ⟨S7x1024, .i1⟩
  | 123 => ⟨S7x1024, .f32⟩
  | 124 => ⟨S7x7x1024x1024, .f32⟩
  | 125 => ⟨S7x7x1024, .f32⟩
  | 126 => ⟨S7x7, .f32⟩
  | 127 => ⟨S7x7, .f32⟩
  | _ => ⟨S49x1024x1024, .f32⟩

abbrev hbmTy0_1 (i : Nat) : BufTy := match i % 128 with
  | 0 => ⟨S_, .f32⟩
  | 1 => ⟨S7, .f32⟩
  | 2 => ⟨S7x1, .f32⟩
  | 3 => ⟨S_, .f32⟩
  | 4 => ⟨S7, .f32⟩
  | 5 => ⟨S1x7, .f32⟩
  | 6 => ⟨S7x7, .f32⟩
  | 7 => ⟨S7x7, .f32⟩
  | 8 => ⟨S7x7, .f32⟩
  | 9 => ⟨S7x7, .f32⟩
  | 10 => ⟨S_, .f32⟩
  | 11 => ⟨S_, .f32⟩
  | 12 => ⟨S_, .f32⟩
  | 13 => ⟨S_, .f32⟩
  | _ => ⟨S49x1024x1024, .f32⟩

abbrev hbmTy (i : Nat) : BufTy := match i / 128 with
  | 0 => hbmTy0_0 i
  | 1 => hbmTy0_1 i
  | _ => ⟨S49x1024x1024, .f32⟩

abbrev bufTy : (tb : Table) → Fin (tcTables nBuf tb) → BufTy
  | .hbm, ⟨i, _⟩ => hbmTy i
  | _, _ => ⟨S49x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_call0_cst_0 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v16 : Ref sig .tc := ⟨.hbm, 40, rfl⟩
abbrev main_v17 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_call1_cst_0 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_cst_1 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v18 : Ref sig .tc := ⟨.hbm, 60, rfl⟩
abbrev main_v19 : Ref sig .tc := ⟨.hbm, 61, rfl⟩
abbrev main_cst_3 : Ref sig .tc := ⟨.hbm, 62, rfl⟩
abbrev main_v20 : Ref sig .tc := ⟨.hbm, 63, rfl⟩
abbrev main_cst_4 : Ref sig .tc := ⟨.hbm, 64, rfl⟩
abbrev main_v21 : Ref sig .tc := ⟨.hbm, 65, rfl⟩
abbrev main_cst_5 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_cst_6 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_cst_7 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_cst_8 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_cst_9 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_10 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_cst_11 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_12 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_13 : Ref sig .tc := ⟨.hbm, 128, rfl⟩
abbrev main_v76 : Ref sig .tc := ⟨.hbm, 129, rfl⟩
abbrev main_v77 : Ref sig .tc := ⟨.hbm, 130, rfl⟩
abbrev main_cst_14 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_15 : Ref sig .tc := ⟨.hbm, 138, rfl⟩
abbrev main_v84 : Ref sig .tc := ⟨.hbm, 139, rfl⟩
abbrev main_cst_16 : Ref sig .tc := ⟨.hbm, 140, rfl⟩
abbrev main_v85 : Ref sig .tc := ⟨.hbm, 141, rfl⟩

abbrev nD : Nat := 1
abbrev τ : Topo := Topo.v7x

variable {F : FTy → Type} [FloatOps F]
-- ==== Proof.Setup.lean ====
/-
  The set-up of the idealized kernel's launch: what the buffers hold when the kernel region is entered, the
  pipeline at the prefetched table's contents, the windows' blocks and staging buffers, and which grid points take
  which of the body's three branches. The grid is (49, 2, 2); point `t` is bin `t / 4`, column block `t / 2 % 2`,
  row block `t % 2`.
-/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

/-- Window 1 (result 0 (%61)) is written back at the points ≡ 3 (mod 4), at any contents of the tables (its index map reads none). -/
theorem flush0_1 (a : (pcfg0 (F := F)).Adm) : ∀ t : Fin (cfg0 a).N, ((cfg0 a).win 1).flush t = true ↔ t.val % 4 = 3 :=
  (fun t => Pipeline.Window.flushOf_reads cc0_transform_1 reads0_1 hreads0_1 0 (by decide) (by decide) (Pipeline.Window.sep_of_coord cc0_transform_1 0 0 (fun _ => rfl) (by decide)) (P := 4) (m := 3) (by decide) rfl t : ∀ t : Fin grid0.N, Pipeline.Window.flushOf grid0 true cc0_transform_1 t = true ↔ t.val % 4 = 3)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_psroipool (grid0.coords t) (Memref.whole main_v60) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole cc0_scratch0) (Memref.isWhole_whole _)

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`). -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1, hostOps1_1, hostOps1_2, hostOps1_3, hostOps1_4].map StableHlo.seq)) :=
  Pipeline.hmainP_around pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12] [hostOps1, hostOps1_1, hostOps1_2, hostOps1_3, hostOps1_4] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- The lines after the region touch the pipeline's arrays and the bypassing buffers only: each operation's buffers
    are unscoped TensorCore references, none of them a prefetched table (`Pipeline.sub_tailRefs`). -/
theorem sfx_sub : ∀ ops ∈ ([hostOps1, hostOps1_1, hostOps1_2, hostOps1_3, hostOps1_4] : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl | rfl | rfl | rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_2_sub) op hop) ?_
    simp only [hostOps1_2, List.mem_cons, List.mem_nil_iff, or_false] at hop
    rcases hop with rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_3_sub) op hop) ?_
    simp only [hostOps1_3, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_4_sub) op hop) ?_
    simp only [hostOps1_4, List.mem_cons, List.mem_nil_iff, or_false] at hop
    rcases hop with rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array of the pipeline (each writes only its own result buffer, which is no array). -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6x7 .i32 := Memref.whole main_v60
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1, hostOps1_2, hostOps1_3, hostOps1_4] c main_arg1 = m ((c : Thread nD τ).loc main_arg1) := by
  unfold Pipeline.afterTail
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 2) — by arithmetic of the point. -/
theorem hcond0_0 : ∀ t : Fin grid0.N, cond0_0 (grid0.coords t) ↔ t.val % 2 = 0 :=
  (fun t => by
    have ht : t.val < 196 := Nat.lt_of_lt_of_eq t.isLt N_0
    have e0 : (grid0.coords t 0).val = t.val / 4 % 49 := Pipeline.Grid.coords_val t 0 (by decide) rfl
    have e1 : (grid0.coords t 1).val = t.val / 2 % 2 := Pipeline.Grid.coords_val t 1 (by decide) rfl
    have e2 : (grid0.coords t 2).val = t.val / 1 % 2 := Pipeline.Grid.coords_val t 2 (by decide) rfl
    simp only [cond0_0, e0, e1, e2]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 1 (mod 4) — by arithmetic of the point. -/
theorem hcond0_1 : ∀ t : Fin grid0.N, cond0_1 (grid0.coords t) ↔ t.val % 4 = 1 :=
  (fun t => by
    have ht : t.val < 196 := Nat.lt_of_lt_of_eq t.isLt N_0
    have e0 : (grid0.coords t 0).val = t.val / 4 % 49 := Pipeline.Grid.coords_val t 0 (by decide) rfl
    have e1 : (grid0.coords t 1).val = t.val / 2 % 2 := Pipeline.Grid.coords_val t 1 (by decide) rfl
    have e2 : (grid0.coords t 2).val = t.val / 1 % 2 := Pipeline.Grid.coords_val t 2 (by decide) rfl
    simp only [cond0_1, k0_cond2, e0, e1, e2]
    word_cmp
   : ∀ t : Fin grid0.N, cond0_1 (grid0.coords t) ↔ t.val % 4 = 1)

/-- The condition of the body's `scf.if` 2 (`k0_h3`), from the grid coordinates (the skeleton's scalar
    chain substituted). -/
abbrev cond0_2 (i : grid0.Coords) : Prop := k0_cond3 i = 1#1
/-- It holds at the points ≡ 3 (mod 4) — by arithmetic of the point. -/
theorem hcond0_2 : ∀ t : Fin grid0.N, cond0_2 (grid0.coords t) ↔ t.val % 4 = 3 :=
  (fun t => by
    have ht : t.val < 196 := Nat.lt_of_lt_of_eq t.isLt N_0
    have e0 : (grid0.coords t 0).val = t.val / 4 % 49 := Pipeline.Grid.coords_val t 0 (by decide) rfl
    have e1 : (grid0.coords t 1).val = t.val / 2 % 2 := Pipeline.Grid.coords_val t 1 (by decide) rfl
    have e2 : (grid0.coords t 2).val = t.val / 1 % 2 := Pipeline.Grid.coords_val t 2 (by decide) rfl
    simp only [cond0_2, k0_cond3, e0, e1, e2]
    word_cmp
   : ∀ t : Fin grid0.N, cond0_2 (grid0.coords t) ↔ t.val % 4 = 3)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x128x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x8x128 .f32 := spec0_1.stage ((cfgM m hO).slots t 1)
abbrev hs0_1 (hO : Ok m) (t : Fin (cfgM m hO).N) : (ms0_1 m hO t).IsWhole := hstage0_1 (((cfgM m hO).slots t 1).cast nbuf0_1)
/-- The scratch operands: whole scoped buffers of the kernel's own, passed beside the windows. -/
abbrev scM0_0 : Memref sig .tc .vmem S8x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.Body.lean ====
/-
  What one visit of the kernel body leaves, in its three cases: at row block 0 it stores the column sums of its masked
  rows in the scratch row; at row block 1 it adds its own column sums to the scratch row, masks the columns and sums
  them, and at column block 0 stores the total in the output block, at column block 1 adds it to what the output
  block holds.
-/
module

public import proofs.«01_k».proof.Proof.Setup
public import Idealize.ShloMosaic.Lib.Pipeline.Value
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The named values -/

/-- The word of the table `T` at the offsets `o`. -/
abbrev word {c : Dev nD} (o : Fin 2 → ℕ) (ho : ∀ a, o a + S1x1.size a ≤ S6x7.size a) (T : TbBuf0 (F := F) c tbM0_0) : BitVec 32 :=
  View.readAt (Elt F) tbM0_0.view (Rect.unit (s := S6x7) o S1x1.size ho).toLoadRect T (Shape.Idx.first (show 0 < S1x1.numel by decide))

/-- The first row of the scratch contents `d`. -/
abbrev row0 (d : Vec F S8x128 .f32) : Vec F S1x128 .f32 :=
  View.ld d (Rect.unit (s := S8x128) ![0, 0] S1x128.size inb_S8x128_S1x128_0_0)

/-- The row block the point `i` takes, and the column block. -/
abbrev rowBlk {c : Dev nD} (i : grid0.Coords) (T : TbBuf0 (F := F) c tbM0_0) : BitVec 32 :=
  Scalar.minsi (Scalar.addi (word (k0_off1 i) (k0_off1_inb i) T) (BitVec.ofNat 32 (i 2).val)) 7#32
abbrev colBlk {c : Dev nD} (i : grid0.Coords) (T : TbBuf0 (F := F) c tbM0_0) : BitVec 32 :=
  Scalar.minsi (Scalar.addi (word (k0_off2 i) (k0_off2_inb i) T) (BitVec.ofNat 32 (i 1).val)) 7#32

/-- The column sums of the masked rows of the block `x`, at the point `i` and the table `T`. -/
def colpart {c : Dev nD} (i : grid0.Coords) (T : TbBuf0 (F := F) c tbM0_0) (x : Vec F S1x128x128 .f32) : FVec F S1x128 .f32 :=
  k0_pay3 (BitVec.ofNat 32 (i 2).val) (rowBlk i T) (word (k0_off3 i) (k0_off3_inb i) T) (word (k0_off4 i) (k0_off4_inb i) T)
    (word (k0_off1 i) (k0_off1_inb i) T) x

/-- The scratch row `r` plus the column sums, its columns masked, summed and spread over an output block. -/
def part {c : Dev nD} (i : grid0.Coords) (T : TbBuf0 (F := F) c tbM0_0) (x : Vec F S1x128x128 .f32) (r : Vec F S1x128 .f32) : FVec F S1x8x128 .f32 :=
  k0_pay1 (BitVec.ofNat 32 (i 1).val) (word (k0_off6 i) (k0_off6_inb i) T)
    (k0_pay5 (BitVec.ofNat 32 (i 2).val) (rowBlk i T) (word (k0_off3 i) (k0_off3_inb i) T) (word (k0_off4 i) (k0_off4_inb i) T)
      (word (k0_off1 i) (k0_off1_inb i) T) x r)
    (k0_pay6 (colBlk i T)) (k0_pay7 (F := F) (colBlk i T) (word (k0_off5 i) (k0_off5_inb i) T)) (word (k0_off2 i) (k0_off2_inb i) T)

/-- The output block `o` with `part` added. -/
def accum {c : Dev nD} (i : grid0.Coords) (T : TbBuf0 (F := F) c tbM0_0) (x : Vec F S1x128x128 .f32) (r : Vec F S1x128 .f32)
    (o : Vec F S1x8x128 .f32) : FVec F S1x8x128 .f32 :=
  addf (shapeCast S1x8x128 o shapeCasts_S1x8x128_S1x8x128) (part i T x r)

/-! ## Loads and stores of whole blocks -/

/-- The zero offsets of a whole block of three axes. -/
theorem zero3 : (![0, 0, 0] : Fin 3 → ℕ) = fun _ => 0 := by funext a; fin_cases a <;> rfl
/-- A load of the whole window block reads the block. -/
theorem ld_x (x : Vec F S1x128x128 .f32) :
    View.ld x (Rect.unit (s := S1x128x128) ![0, 0, 0] S1x128x128.size inb_S1x128x128_S1x128x128_0_0_0) = x :=
  View.ld_unit_zero (S := S1x128x128) (off := ![0, 0, 0]) zero3 inb_S1x128x128_S1x128x128_0_0_0 x
/-- A load of the whole output block reads the block. -/
theorem ld_o (x : Vec F S1x8x128 .f32) :
    View.ld x (Rect.unit (s := S1x8x128) ![0, 0, 0] S1x8x128.size inb_S1x8x128_S1x8x128_0_0_0) = x :=
  View.ld_unit_zero (S := S1x8x128) (off := ![0, 0, 0]) zero3 inb_S1x8x128_S1x8x128_0_0_0 x
/-- A store over the whole output block leaves its payload, whatever the buffer held. -/
theorem read_store_o (v : View sig .tc .vmem S1x8x128 .f32) (f : v.ty.Contents (Elt F)) (w : Vec F S1x8x128 .f32) :
    v.read (Elt F) (v.writes (Elt F) f [⟨Rect.unit (s := S1x8x128) ![0, 0, 0] S1x8x128.size inb_S1x8x128_S1x8x128_0_0_0, w⟩]) = w :=
  (View.read_writes_eq_canon v f _ fun y => ⟨_, List.mem_singleton_self _, View.mem_set_unit_zero (S := S1x8x128) (off := ![0, 0, 0]) zero3 inb_S1x8x128_S1x8x128_0_0_0 y⟩).trans
    (View.canon_unit_zero (Val := Elt F) (S := S1x8x128) (off := ![0, 0, 0]) zero3 inb_S1x8x128_S1x8x128_0_0_0 w)
/-- A load through the rectangle of the one store made reads the stored value. -/
theorem ld_store {κ : Kind} {sp : Space} {S : Shape} {e : EltTy} (v : View sig κ sp S e) (f : v.ty.Contents (Elt F)) (R : Rect S)
    (w : R.shape.Idx → Elt F e) : View.ld (v.read (Elt F) (v.writes (Elt F) f [⟨R, w⟩])) R = w := by
  funext y
  exact (View.read_writes_apply_eq_canon v f (R.idx y) _ ⟨_, List.mem_singleton_self _, R.toLoadRect.idx_mem y⟩).trans
    (View.canon_cons_emb (Val := Elt F) R w [] y)
/-- A store over the scratch row leaves its payload in that row. -/
theorem row0_store (v : View sig .tc .vmem S8x128 .f32) (f : v.ty.Contents (Elt F)) (w : Vec F S1x128 .f32) :
    row0 (v.read (Elt F) (v.writes (Elt F) f [⟨Rect.unit (s := S8x128) ![0, 0] S1x128.size inb_S8x128_S1x128_0_0, w⟩])) = w :=
  ld_store v f (Rect.unit (s := S8x128) ![0, 0] S1x128.size inb_S8x128_S1x128_0_0) w
/-- A cast of a row to its own shape is the row. -/
theorem shapeCast_row (v : FVec F S1x128 .f32) : shapeCast S1x128 v shapeCasts_S1x128_S1x128 = v := by
  funext j; unfold shapeCast; rw [Shape.reshapeEquiv_self]

/-! ## The three cases -/

set_option maxHeartbeats 1000000 in
/-- At row block 0: the scratch row ends at the column sums, the output block as it was. -/
theorem runA (c : Dev nD) (i : grid0.Coords) (arg4 : Memref sig .tc .vmem S1x128x128 .f32) (harg4 : arg4.IsWhole) (arg5 : Memref sig .tc .vmem S1x8x128 .f32) (harg5 : arg5.IsWhole) (arg6 : Memref sig .tc .vmem S8x128 .f32) (harg6 : arg6.IsWhole) (hc0 : cond0_0 i) (hc1 : ¬cond0_1 i) (hc2 : ¬cond0_2 i)
    (x0 : Vec F S1x128x128 .f32) (d1 : Vec F S1x8x128 .f32) (T : TbBuf0 (F := F) c tbM0_0) (E : Set ℕ) (K : PUnit → sProp 𝕄) :
    iprop(owns (c : Thread nD τ) arg4 fullShare x0 ∗ owns (c : Thread nD τ) arg5 fullShare d1 ∗ (∃ d, owns (c : Thread nD τ) arg6 fullShare d) ∗ tbPt0 c tbM0_0 T
        ∗ (iprop(owns (c : Thread nD τ) arg4 fullShare x0 ∗ owns (c : Thread nD τ) arg5 fullShare d1
            ∗ (∃ d, ⌜row0 d = colpart i T x0⌝ ∗ owns (c : Thread nD τ) arg6 fullShare d) ∗ tbPt0 c tbM0_0 T) -∗ K ⟨⟩))
      ⊢ wp frame (wpE (defs₀ (F := F)) Variants.none c none) E (cc0_psroipool i tbM0_0 htbM0_0 arg4 harg4 arg5 harg5 arg6 harg6) K := by
  simp only [cc0_psroipool_eq_skeleton]; unfold cc0_psroipool_skel
  simp only [k0_part1_eq_skeleton, k0_part2_eq_skeleton]
  unfold owns
  iintro ⟨⟨%f0, %hf0, H0⟩, ⟨%f1, %hf1, H1⟩, ⟨%ds0, %fs0, -, HS0⟩, HT0, Hk⟩
  obtain rfl := harg4.eq_unread hf0
  sl_exec (disch := first | sl_exact hc0 | sl_exact hc1 | sl_exact hc2)
  sl_step
  iapply Hk
  isplitl [H0]
  · iexists _; isplitr; · ipureintro; exact harg4.read_unread _
    iexact H0
  isplitl [H1]
  · iexists f1; isplitr; swap; · iexact H1
    ipureintro; exact hf1
  isplitl [HS0]
  · iexists _; isplitr; swap
    · iexists _; isplitr; swap; · iexact HS0
      ipureintro; rfl
    · ipureintro
      refine (row0_store arg6.view fs0 _).trans ((shapeCast_row _).trans ?_)
      exact congrArg (k0_pay3 _ _ _ _ _) ((View.readAt_eq_ld _ _ _).trans ((congrArg (fun z => View.ld z _) (harg4.read_unread x0)).trans (ld_x x0)))
  iexact HT0

set_option maxHeartbeats 1000000 in
/-- At row block 1 and column block 0: the output block ends at `part` of the scratch row. -/
theorem runB (c : Dev nD) (i : grid0.Coords) (arg4 : Memref sig .tc .vmem S1x128x128 .f32) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i) (hc2 : ¬cond0_2 i)
    (x0 : Vec F S1x128x128 .f32) (r : Vec F S1x128 .f32) (T : TbBuf0 (F := F) c tbM0_0) (E : Set ℕ) (K : PUnit → sProp 𝕄) :
    iprop(owns (c : Thread nD τ) arg4 fullShare x0 ∗ (∃ d, owns (c : Thread nD τ) arg5 fullShare d)
        ∗ (∃ d, ⌜row0 d = r⌝ ∗ owns (c : Thread nD τ) arg6 fullShare d) ∗ tbPt0 c tbM0_0 T
        ∗ (iprop(owns (c : Thread nD τ) arg4 fullShare x0 ∗ owns (c : Thread nD τ) arg5 fullShare (part i T x0 r)
            ∗ (∃ d, owns (c : Thread nD τ) arg6 fullShare d) ∗ tbPt0 c tbM0_0 T) -∗ K ⟨⟩))
      ⊢ wp frame (wpE (defs₀ (F := F)) Variants.none c none) E (cc0_psroipool i tbM0_0 htbM0_0 arg4 harg4 arg5 harg5 arg6 harg6) K := by
  simp only [cc0_psroipool_eq_skeleton]; unfold cc0_psroipool_skel
  simp only [k0_part1_eq_skeleton, k0_part2_eq_skeleton]
  unfold owns
  iintro ⟨⟨%f0, %hf0, H0⟩, ⟨%d1, %f1, %hf1, H1⟩, ⟨%ds0, %hr, %fs0, %hfs0, HS0⟩, HT0, Hk⟩
  obtain rfl := harg4.eq_unread hf0
  obtain rfl := harg6.eq_unread hfs0
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; swap; · iexact H1
    ipureintro
    have e4 : View.readAt (Elt F) arg4.view (Rect.unit (s := S1x128x128) ![0, 0, 0] S1x128x128.size inb_S1x128x128_S1x128x128_0_0_0).toLoadRect (harg4.unread x0) = x0 :=
      (View.readAt_eq_ld _ _ _).trans ((congrArg (fun z => View.ld z _) (harg4.read_unread x0)).trans (ld_x x0))
    have e6 : View.readAt (Elt F) arg6.view (Rect.unit (s := S8x128) ![0, 0] S1x128.size inb_S8x128_S1x128_0_0).toLoadRect (harg6.unread ds0) = r :=
      (View.readAt_eq_ld _ _ _).trans ((congrArg (fun z => View.ld z _) (harg6.read_unread ds0)).trans hr)
    refine (read_store_o arg5.view f1 _).trans ?_
    unfold part
    exact congrArg (fun z => k0_pay1 _ _ z _ _ _) (congrArg₂ (k0_pay5 _ _ _ _ _) e4 e6)
  isplitl [HS0]
  · iexists _, _; isplitr; swap; · iexact HS0
    ipureintro; rfl
  iexact HT0

set_option maxHeartbeats 1000000 in
/-- At row block 1 and column block 1: the output block ends with `part` of the scratch row added. -/
theorem runC (c : Dev nD) (i : grid0.Coords) (arg4 : Memref sig .tc .vmem S1x128x128 .f32) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : ¬cond0_1 i) (hc2 : cond0_2 i)
    (x0 : Vec F S1x128x128 .f32) (d1 : Vec F S1x8x128 .f32) (r : Vec F S1x128 .f32) (T : TbBuf0 (F := F) c tbM0_0) (E : Set ℕ) (K : PUnit → sProp 𝕄) :
    iprop(owns (c : Thread nD τ) arg4 fullShare x0 ∗ owns (c : Thread nD τ) arg5 fullShare d1
        ∗ (∃ d, ⌜row0 d = r⌝ ∗ owns (c : Thread nD τ) arg6 fullShare d) ∗ tbPt0 c tbM0_0 T
        ∗ (iprop(owns (c : Thread nD τ) arg4 fullShare x0 ∗ owns (c : Thread nD τ) arg5 fullShare (accum i T x0 r d1)
            ∗ (∃ d, owns (c : Thread nD τ) arg6 fullShare d) ∗ tbPt0 c tbM0_0 T) -∗ K ⟨⟩))
      ⊢ wp frame (wpE (defs₀ (F := F)) Variants.none c none) E (cc0_psroipool i tbM0_0 htbM0_0 arg4 harg4 arg5 harg5 arg6 harg6) K := by
  simp only [cc0_psroipool_eq_skeleton]; unfold cc0_psroipool_skel
  simp only [k0_part1_eq_skeleton, k0_part2_eq_skeleton]
  unfold owns
  iintro ⟨⟨%f0, %hf0, H0⟩, ⟨%f1, %hf1, H1⟩, ⟨%ds0, %hr, %fs0, %hfs0, HS0⟩, HT0, Hk⟩
  obtain rfl := harg4.eq_unread hf0
  obtain rfl := harg5.eq_unread hf1
  obtain rfl := harg6.eq_unread hfs0
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; swap; · iexact H1
    ipureintro
    have e4 : View.readAt (Elt F) arg4.view (Rect.unit (s := S1x128x128) ![0, 0, 0] S1x128x128.size inb_S1x128x128_S1x128x128_0_0_0).toLoadRect (harg4.unread x0) = x0 :=
      (View.readAt_eq_ld _ _ _).trans ((congrArg (fun z => View.ld z _) (harg4.read_unread x0)).trans (ld_x x0))
    have e6 : View.readAt (Elt F) arg6.view (Rect.unit (s := S8x128) ![0, 0] S1x128.size inb_S8x128_S1x128_0_0).toLoadRect (harg6.unread ds0) = r :=
      (View.readAt_eq_ld _ _ _).trans ((congrArg (fun z => View.ld z _) (harg6.read_unread ds0)).trans hr)
    have e5 : View.readAt (Elt F) arg5.view (Rect.unit (s := S1x8x128) ![0, 0, 0] S1x8x128.size inb_S1x8x128_S1x8x128_0_0_0).toLoadRect (harg5.unread d1) = d1 :=
      (View.readAt_eq_ld _ _ _).trans ((congrArg (fun z => View.ld z _) (harg5.read_unread d1)).trans (ld_o d1))
    refine (read_store_o arg5.view _ _).trans ?_
    unfold accum
    refine congrArg₂ addf (congrArg (fun z => shapeCast S1x8x128 z shapeCasts_S1x8x128_S1x8x128) e5) ?_
    unfold part
    exact congrArg (fun z => k0_pay1 _ _ z _ _ _) (congrArg₂ (k0_pay5 _ _ _ _ _) e4 e6)
  isplitl [HS0]
  · iexists _, _; isplitr; swap; · iexact HS0
    ipureintro; rfl
  iexact HT0

end Cert.KernelIdeal.Gen
end
-- ==== Proof.Region.lean ====
/-
  The kernel's launch: what each window's buffer holds after every grid point, and what every buffer holds when the
  program ends. Bin `k` is visited at the points `4k … 4k+3`; the output block of the bin is stored at `4k + 1` and
  added to at `4k + 3`, where it is written back.
-/
module

public import proofs.«01_k».proof.Proof.Body
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The grid point numbered `n`. -/
def pt (n : ℕ) : Fin grid0.N := ⟨n % 196, (Nat.mod_lt _ (by decide)).trans_eq N_0.symm⟩

theorem pt_eq (t : Fin grid0.N) (n : ℕ) (h : n = t.val) : pt n = t :=
  Fin.ext (by subst h; exact Nat.mod_eq_of_lt (t.isLt.trans_eq N_0))

/-- The column sums of the masked rows at point `n`. -/
def colAt (hO : Ok m) (c : Dev nD) (n : ℕ) : FVec F S1x128 .f32 :=
  colpart (c := c) (grid0.coords (pt n)) (tbl m 0) (iblk m hO c 0 (pt n))

/-- The output block of bin `k` after its first column block, -/
def firstAt (hO : Ok m) (c : Dev nD) (k : ℕ) : FVec F S1x8x128 .f32 :=
  part (c := c) (grid0.coords (pt (4 * k + 1))) (tbl m 0) (iblk m hO c 0 (pt (4 * k + 1))) (colAt m hO c (4 * k))

/-- and after its second. -/
def lastAt (hO : Ok m) (c : Dev nD) (k : ℕ) : FVec F S1x8x128 .f32 :=
  accum (c := c) (grid0.coords (pt (4 * k + 3))) (tbl m 0) (iblk m hO c 0 (pt (4 * k + 3))) (colAt m hO c (4 * k + 2)) (firstAt m hO c k)

/-- What the output window's buffer holds after point `n`. -/
def outAt (hO : Ok m) (c : Dev nD) (n : ℕ) : FVec F S1x8x128 .f32 :=
  if n % 4 = 3 then lastAt m hO c (n / 4) else firstAt m hO c (n / 4)

/-- Between the points: the scratch row holds, before an odd point, the column sums of the point before. -/
def Phi (hO : Ok m) (c : Dev nD) (n : ℕ) : sProp 𝕄 :=
  iprop(iprop((∃ d, ⌜n % 2 = 1 → row0 d = colAt m hO c (n - 1)⌝ ∗ owns (c : Thread nD τ) scM0_0 fullShare d) ∗ (∃ r, prngReg c r))
    ∗ tbPt0 c tbM0_0 (tbl m 0))

/-- The proof data of the pipeline on core `c`: the arrays as the region finds them; after point `t` the input's buffer at
    its block and the output's at `outAt`; the scratch row tracked. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => outAt m hO c t.val
  Φ t := Phi m hO c t.val
  q _ := fullShare
  owed _ := 0

/-- The proof data's arrays are what the region finds. -/
theorem A_eq (hO : Ok m) (c : Dev nD) (w : Fin (cfgM m hO).W) : (dats m hO 0 c).A w = V m c (Pipeline.arrRef spec0 w) := by
  dsimp only [dats]

/-- The input's buffer after a point: its block. -/
theorem after0_0 (hO : Ok m) (c : Dev nD) (t : Fin (cfgM m hO).N) : (dats m hO 0 c).after 0 t = iblk m hO c 0 t := by dsimp only [dats]; try rfl
/-- The output's buffer after a point. -/
theorem after0_1 (hO : Ok m) (c : Dev nD) (t : Fin (cfgM m hO).N) : (dats m hO 0 c).after 1 t = outAt m hO c t.val := by dsimp only [dats]; try rfl

/-- The input's buffer holds its block before every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d

/-- The output is left alone at the even points. -/
theorem idle0_1 (hO : Ok m) (t : Fin (cfgM m hO).N) : (cfgM m hO).idle 1 (grid0.coords t) = decide (t.val % 2 = 0) := by
  have e1 := hcond0_1 t
  have e2 := hcond0_2 t
  show (!(k0_cond2 (grid0.coords t) == 1#1) && !(k0_cond3 (grid0.coords t) == 1#1)) = _
  rw [Bool.eq_iff_iff]
  simp only [Bool.and_eq_true, Bool.not_eq_true', beq_eq_false_iff_ne, ne_eq, decide_eq_true_eq]
  unfold cond0_1 at e1; unfold cond0_2 at e2
  rw [e1, e2]; omega

/-- The output's buffer is fresh before the first two points of a bin. -/
theorem fresh0_1 (hO : Ok m) (n : ℕ) (hn : n ≤ (cfgM m hO).N) : (cfgM m hO).fresh 1 n = decide (n % 4 = 0 ∨ n % 4 = 1) := by
  refine (cfgM m hO).fresh_tab 1 (fun n => decide (n % 4 = 0 ∨ n % 4 = 1)) rfl (fun t => ?_) n hn
  have hf := flush0_1 (adm m hO) t
  have hi := idle0_1 m hO t
  have hi' : (cfgM m hO).idle 1 ((cfgM m hO).grid.coords t) = decide (t.val % 2 = 0) := hi
  rw [hi', Bool.eq_iff_iff]
  have hf' : ((cfgM m hO).win 1).flush t = true ↔ t.val % 4 = 3 := hf
  simp only [Bool.or_eq_true, Bool.and_eq_true, decide_eq_true_eq, hf']
  omega

/-- Before the last point of a bin the output's buffer holds the bin's first store. -/
theorem before0_1 (hO : Ok m) (c : Dev nD) (t : Fin (cfgM m hO).N) (h : t.val % 4 = 3) (d) :
    (dats m hO 0 c).before 1 t d = firstAt m hO c (t.val / 4) := by
  rw [(dats m hO 0 c).before_out_traj 1 rfl (fun _ _ => rfl) (fun s hs hi hf => ?_) t.val t rfl d, fresh0_1 m hO _ t.isLt.le, if_neg (by simp; omega), after0_1]
  · unfold outAt
    rw [if_neg (by dsimp only; omega)]
    congr 1; dsimp only; omega
  · have hi' : (cfgM m hO).idle 1 (grid0.coords s) = true := hi
    rw [idle0_1 m hO s, decide_eq_true_eq] at hi'
    rw [fresh0_1 m hO _ s.isLt.le, decide_eq_false_iff_not] at hf
    rw [after0_1, after0_1]
    unfold outAt
    dsimp only
    rw [if_neg (by omega), if_neg (by omega)]
    congr 1; omega

/-! ## The body obligation -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t)

/-- What the body must leave in the output's buffer at an even point: what it found there. -/
theorem leaves1_idle (hO : Ok m) (c : Dev nD) (t : Fin (cfgM m hO).N) (h : t.val % 2 = 0) :
    (dats m hO 0 c).leavesExact 1 t = iprop(∃ d, owns (c : Thread nD τ) (ms0_1 m hO t) fullShare ((dats m hO 0 c).before 1 t d)) :=
  (dats m hO 0 c).leavesExact_idle 1 t ((idle0_1 m hO t).trans (decide_eq_true h))
    (by
      rw [← Bool.not_eq_true]
      intro hf
      have := (flush0_1 (adm m hO) t).mp hf
      omega)

/-- What the body must leave in the output's buffer at an odd point. -/
theorem leaves1_live (hO : Ok m) (c : Dev nD) (t : Fin (cfgM m hO).N) (h : t.val % 2 = 1) :
    (dats m hO 0 c).leavesExact 1 t = owns (c : Thread nD τ) (ms0_1 m hO t) fullShare (outAt m hO c t.val) := by
  have hi : (cfgM m hO).idle 1 ((cfgM m hO).grid.coords t) = false := (idle0_1 m hO t).trans (decide_eq_false (by omega))
  unfold Dat.leavesExact; rw [hi]
  rfl

set_option maxHeartbeats 1200000 in
/-- The body at any point: each case by its run. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0]
  rw [show (dats m hO 0 c).owesAt () t.succ = (dats m hO 0 c).owesAt () t.castSucc from rfl]
  rw [show (dats m hO 0 c).Φ t.castSucc = Phi m hO c t.val from rfl, show (dats m hO 0 c).Φ t.succ = Phi m hO c (t.val + 1) from rfl]
  rw [show (dats m hO 0 c).leavesExact 0 t = owns (c : Thread nD τ) (ms0_0 m hO t) fullShare ((dats m hO 0 c).after 0 t) from by
      unfold Dat.leavesExact; rw [liveAt0_0 m hO t]; try rfl, after0_0]
  unfold Phi
  have hN : t.val < 196 := lt_of_lt_of_eq t.isLt (show (cfgM m hO).N = 196 from N_0)
  by_cases h0 : t.val % 2 = 0
  · rw [leaves1_idle m hO c t h0]
    iintro ⟨⟨⟨⟨%ds, -, HS0⟩, Hg⟩, HT0⟩, Ho, ⟨%d0, H0⟩, ⟨%d1, H1⟩⟩
    iapply (runA c (grid0.coords t) _ _ _ _ _ _ ((hcond0_0 t).mpr h0) (fun h => by have := (hcond0_1 t).mp h; omega) (fun h => by have := (hcond0_2 t).mp h; omega) (iblk m hO c 0 t) ((dats m hO 0 c).before 1 t d1) (tbl m 0) Set.univ _)
    isplitl [H0]; · iexact H0
    isplitl [H1]; · iexact H1
    isplitl [HS0]; · iexists _; iexact HS0
    isplitl [HT0]; · iexact HT0
    iintro ⟨H0, H1, ⟨%ds', %hs, HS0⟩, HT0⟩
    isplitl [HS0 Hg HT0]
    · isplitl [HS0 Hg]
      · isplitl [HS0]
        · iexists ds'; isplitr
          · ipureintro; intro _
            rw [hs]; unfold colAt
            rw [pt_eq t _ (by omega)]
          iexact HS0
        iexact Hg
      iexact HT0
    isplitl [Ho]; · iexact Ho
    isplitl [H0]; · iexact H0
    iexists d1; iexact H1
  · have h1' : t.val % 2 = 1 := by omega
    rw [leaves1_live m hO c t h1']
    by_cases h1 : t.val % 4 = 1
    · iintro ⟨⟨⟨⟨%ds, %hs, HS0⟩, Hg⟩, HT0⟩, Ho, ⟨%d0, H0⟩, ⟨%d1, H1⟩⟩
      iapply (runB c (grid0.coords t) _ _ _ _ _ _ (fun h => h0 ((hcond0_0 t).mp h)) ((hcond0_1 t).mpr h1) (fun h => by have := (hcond0_2 t).mp h; omega) (iblk m hO c 0 t) (colAt m hO c (t.val - 1)) (tbl m 0) Set.univ _)
      isplitl [H0]; · iexact H0
      isplitl [H1]; · iexists _; iexact H1
      isplitl [HS0]
      · iexists ds; isplitr
        · ipureintro; exact hs h1'
        iexact HS0
      isplitl [HT0]; · iexact HT0
      iintro ⟨H0, H1, ⟨%ds', HS0⟩, HT0⟩
      isplitl [HS0 Hg HT0]
      · isplitl [HS0 Hg]
        · isplitl [HS0]
          · iexists ds'; isplitr
            · ipureintro; intro hh; exact absurd hh (by omega)
            iexact HS0
          iexact Hg
        iexact HT0
      isplitl [Ho]; · iexact Ho
      isplitl [H0]; · iexact H0
      rw [show outAt m hO c t.val = part (c := c) (grid0.coords t) (tbl m 0) (iblk m hO c 0 t) (colAt m hO c (t.val - 1)) from by
        unfold outAt firstAt
        rw [if_neg (by omega), pt_eq t _ (by omega), show 4 * (t.val / 4) = t.val - 1 from by omega]]
      iexact H1
    · have h3 : t.val % 4 = 3 := by omega
      simp only [before0_1 m hO c t h3]
      iintro ⟨⟨⟨⟨%ds, %hs, HS0⟩, Hg⟩, HT0⟩, Ho, ⟨%d0, H0⟩, ⟨%d1, H1⟩⟩
      iapply (runC c (grid0.coords t) _ _ _ _ _ _ (fun h => h0 ((hcond0_0 t).mp h)) (fun h => h1 ((hcond0_1 t).mp h)) ((hcond0_2 t).mpr h3) (iblk m hO c 0 t) (firstAt m hO c (t.val / 4)) (colAt m hO c (t.val - 1)) (tbl m 0) Set.univ _)
      isplitl [H0]; · iexact H0
      isplitl [H1]; · iexact H1
      isplitl [HS0]
      · iexists ds; isplitr
        · ipureintro; exact hs h1'
        iexact HS0
      isplitl [HT0]; · iexact HT0
      iintro ⟨H0, H1, ⟨%ds', HS0⟩, HT0⟩
      isplitl [HS0 Hg HT0]
      · isplitl [HS0 Hg]
        · isplitl [HS0]
          · iexists ds'; isplitr
            · ipureintro; intro hh; exact absurd hh (by omega)
            iexact HS0
          iexact Hg
        iexact HT0
      isplitl [Ho]; · iexact Ho
      isplitl [H0]; · iexact H0
      rw [show outAt m hO c t.val = accum (c := c) (grid0.coords t) (tbl m 0) (iblk m hO c 0 t) (colAt m hO c (t.val - 1)) (firstAt m hO c (t.val / 4)) from by
        unfold outAt lastAt
        rw [if_pos h3, pt_eq t _ (by omega), show 4 * (t.val / 4) + 2 = t.val - 1 from by omega]]
      iexact H1

/-- The body table's row at point `t`'s slots is the body there. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

/-- What the buffers hold when the program ends. -/
abbrev endsAt (hO : Ok m) := Pipeline.afterTail pcfgs (fun _ => adm m hO) (dats m hO) 0 (V0 m) [hostOps1, hostOps1_1, hostOps1_2, hostOps1_3, hostOps1_4]

set_option backward.isDefEq.respectTransparency.types false in
set_option maxHeartbeats 800000 in
/-- Every execution of the program ends with the buffers at `endsAt`, the pipeline's arrays at what its write-backs
    leave, and every semaphore counter at zero. -/
theorem run_main (hO : Ok m) : θ_run defs (onTc (τ := τ) (main (F := F))) (s₀ m ρ)
    (fun r => Pipeline.FramePost (Pipeline.pin pcfgs fun _ => adm m hO) (dats m hO) 0 (endsAt m hO) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m hO) (hpf := V_pre m)
    (hin := fun c => by
      show _ ⊢ Phi m hO c 0
      unfold Phi
      rw [PhiT0_eq m c, PhiA0_eq c]
      iintro ⟨⟨⟨%d, HS⟩, Hg⟩, HT⟩
      isplitl [HS Hg]
      · isplitl [HS]
        · iexists d; isplitr
          · ipureintro; intro h; exact absurd h (by decide)
          iexact HS
        iexact Hg
      iexact HT)
    (hout := fun c => by
      show Phi m hO c _ ⊢ _
      unfold Phi
      rw [PhiA0_eq c]
      iintro ⟨⟨⟨%d, -, HS⟩, Hg⟩, HT⟩
      isplitl [HS]
      · iexists d; iexact HS
      iexact Hg)
    (hQ' := fun _ h => h)

end Cert.KernelIdeal.Gen

end
-- ==== Proof.Table.lean ====
/-
  The bin bounds, as the host computes them before the launch, and the table of words the launch is given. The bounds are
  named here once: the reference's masks are made of the same ones.
-/
module

public import proofs.«01_k».proof.Proof.Setup
public import Idealize.ShloMosaic.Lib.StableHlo.RunRead

@[expose] public section

set_option maxRecDepth 16384

noncomputable section

namespace Cert.KernelIdeal.Gen

open Idealize.ShloMosaic Idealize.ShloMosaic.TcCoe Idealize.ShloMosaic.Tactic
open Idealize.SL
open scoped Idealize.SL.BI

/-- Arrays of floats. -/
abbrev FContents (F : FTy → Type) (S : Shape) (φ : FTy) := S.Idx → F φ
/-- Arrays of words. -/
abbrev IContents (S : Shape) (w : ℕ) := S.Idx → BitVec w

variable {F : FTy → Type} [FloatOps F]

/-! ## The bin bounds -/

/-- The region's middle row, its middle column, its height and its width, as the four entries of the region hold them. -/
def midRow (reg : FContents F S4 .f32) : FContents F S_ .f32 := shapeCast S_ (extractStridedSlice S1 ![0] reg slices_S4_S1_0) shapeCasts_S1_S_
@[inherit_doc midRow] def midCol (reg : FContents F S4 .f32) : FContents F S_ .f32 := shapeCast S_ (extractStridedSlice S1 ![1] reg slices_S4_S1_1) shapeCasts_S1_S_
@[inherit_doc midRow] def height (reg : FContents F S4 .f32) : FContents F S_ .f32 := shapeCast S_ (extractStridedSlice S1 ![2] reg slices_S4_S1_2) shapeCasts_S1_S_
@[inherit_doc midRow] def width (reg : FContents F S4 .f32) : FContents F S_ .f32 := shapeCast S_ (extractStridedSlice S1 ![3] reg slices_S4_S1_3) shapeCasts_S1_S_

/-- The seven inner points of the nine equally spaced ones that span an interval of the middle `i` and the length `h`. -/
def centres (i h : FContents F S_ .f32) : FContents F S7 .f32 :=
  let lo := subf i (Host.divf h (constant S_ .f32 0x40000000#32))
  let hi := addf i (Host.divf h (constant S_ .f32 0x40000000#32))
  let s : FContents F S8 .f32 := Host.divf (sitofp .f32 (iotaInDim S8 32 0)) (broadcastInDim S8 ![] bcast_S_S8 (constant S_ .f32 0x41000000#32))
  extractStridedSlice S7 ![1] (concatenate S9 0 [
    ⟨S8, addf (mulf (broadcastInDim S8 ![0] bcast_S1_S8_0 (shapeCast S1 lo shapeCasts_S_S1)) (subf (broadcastInDim S8 ![] bcast_S_S8 (constant S_ .f32 0x3F800000#32)) s))
      (mulf (broadcastInDim S8 ![0] bcast_S1_S8_0 (shapeCast S1 hi shapeCasts_S_S1)) s)⟩,
    ⟨S1, broadcastInDim S1 ![] bcast_S_S1 hi⟩] concatenates_S8_S1_S9_d0) slices_S9_S7_1

/-- Half the length of one bin. -/
def halfBin (h : FContents F S_ .f32) : FContents F S_ .f32 :=
  Host.divf (Host.divf h (constant S_ .f32 0x40E00000#32)) (constant S_ .f32 0x40000000#32)

/-- The first row (or column) of each bin, rounded down: the centre less half a bin, in elements. -/
def lowBins (i h : FContents F S_ .f32) : FContents F S7 .f32 :=
  Host.floor (mulf (subf (centres i h) (broadcastInDim S7 ![] bcast_S_S7 (halfBin h))) (broadcastInDim S7 ![] bcast_S_S7 (constant S_ .f32 0x44800000#32)))
/-- The row (or column) after each bin, rounded up. -/
def highBins (i h : FContents F S_ .f32) : FContents F S7 .f32 :=
  Host.ceil (mulf (addf (centres i h) (broadcastInDim S7 ![] bcast_S_S7 (halfBin h))) (broadcastInDim S7 ![] bcast_S_S7 (constant S_ .f32 0x44800000#32)))

/-- Each word divided by 128, rounded down. -/
def block (v : IContents S7 32) : IContents S7 32 :=
  let d : IContents S7 32 := broadcastInDim S7 ![] bcast_S_S7 (constantI S_ 32 128#32)
  select (andi (cmpi .ne (signi v) (broadcastInDim S7 ![] bcast_S_S7 (signi (constantI S_ 32 128#32)))) (cmpi .ne (Host.remsi v d) (broadcastInDim S7 ![] bcast_S_S7 (constantI S_ 32 0#32))))
    (subi (Host.divsi v d) (broadcastInDim S7 ![] bcast_S_S7 (constantI S_ 32 1#32))) (Host.divsi v d)

/-- Each word brought into `0 … 7`. -/
def clip7 (v : IContents S7 32) : IContents S7 32 :=
  minsi (broadcastInDim S7 ![] bcast_S_S7 (constantI S_ 32 7#32)) (maxsi (broadcastInDim S7 ![] bcast_S_S7 (constantI S_ 32 0#32)) v)

/-- A row of the table. -/
def asRow (v : IContents S7 32) : IContents S1x7 32 := broadcastInDim S1x7 ![1] bcast_S7_S1x7_1 v

/-- Six rows one above the other. -/
def rows6 (a b c d e f : IContents S1x7 32) : IContents S6x7 32 :=
  concatenate S6x7 0 [⟨S1x7, a⟩, ⟨S1x7, b⟩, ⟨S1x7, c⟩, ⟨S1x7, d⟩, ⟨S1x7, e⟩, ⟨S1x7, f⟩] concatenates_S1x7_S1x7_S1x7_S1x7_S1x7_S1x7_S6x7_d0

/-- The six rows of the table: the block a bin's rows begin in, the same for its columns, and the bounds themselves. -/
def table (reg : FContents F S4 .f32) : IContents S6x7 32 :=
  let r0 : IContents S7 32 := fptosi 32 (lowBins (midRow reg) (height reg))
  let r1 : IContents S7 32 := fptosi 32 (highBins (midRow reg) (height reg))
  let c0 : IContents S7 32 := fptosi 32 (lowBins (midCol reg) (width reg))
  let c1 : IContents S7 32 := fptosi 32 (highBins (midCol reg) (width reg))
  rows6 (asRow (clip7 (block r0))) (asRow (clip7 (block c0))) (asRow r0) (asRow r1) (asRow c0) (asRow c1)

/-! ## What the operations before the launch leave -/

variable (m : (ℓ : Loc nD τ sig) → Buf (Elt F) ℓ)

/-- The words the table's bounds are made of. -/
theorem V_v28 (c : Dev nD) : V m c main_v28 = fptosi 32 (lowBins (midRow (m ((c : Thread nD τ).loc main_arg1))) (height (m ((c : Thread nD τ).loc main_arg1)))) := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  rfl
/-- The words the table's bounds are made of. -/
theorem V_v35 (c : Dev nD) : V m c main_v35 = fptosi 32 (highBins (midRow (m ((c : Thread nD τ).loc main_arg1))) (height (m ((c : Thread nD τ).loc main_arg1)))) := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  rfl
/-- The words the table's bounds are made of. -/
theorem V_v42 (c : Dev nD) : V m c main_v42 = fptosi 32 (lowBins (midCol (m ((c : Thread nD τ).loc main_arg1))) (width (m ((c : Thread nD τ).loc main_arg1)))) := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  rfl
/-- The words the table's bounds are made of. -/
theorem V_v49 (c : Dev nD) : V m c main_v49 = fptosi 32 (highBins (midCol (m ((c : Thread nD τ).loc main_arg1))) (width (m ((c : Thread nD τ).loc main_arg1)))) := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  rfl

set_option maxHeartbeats 600000 in
/-- What the launch finds in the table. -/
theorem V_v60 (c : Dev nD) : V m c main_v60 = table (m ((c : Thread nD τ).loc main_arg1)) := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  generalize hX : StableHlo.upto _ _ 158 = X
  have h54 : X (Proc.devRef .tc main_v54) = asRow (clip7 (block (fptosi 32 (lowBins (midRow (m ((c : Thread nD τ).loc main_arg1))) (height (m ((c : Thread nD τ).loc main_arg1))))))) := by subst hX; after_reads_simp; simp -implicitDefEqProofs only [StableHlo.TRef.toBuf, StableHlo.TRef.ofBuf, cast_cast, cast_eq, id]; rfl
  have h55 : X (Proc.devRef .tc main_v55) = asRow (clip7 (block (fptosi 32 (lowBins (midCol (m ((c : Thread nD τ).loc main_arg1))) (width (m ((c : Thread nD τ).loc main_arg1))))))) := by subst hX; after_reads_simp; simp -implicitDefEqProofs only [StableHlo.TRef.toBuf, StableHlo.TRef.ofBuf, cast_cast, cast_eq, id]; rfl
  have h56 : X (Proc.devRef .tc main_v56) = asRow (fptosi 32 (lowBins (midRow (m ((c : Thread nD τ).loc main_arg1))) (height (m ((c : Thread nD τ).loc main_arg1))))) := by subst hX; after_reads_simp; rfl
  have h57 : X (Proc.devRef .tc main_v57) = asRow (fptosi 32 (highBins (midRow (m ((c : Thread nD τ).loc main_arg1))) (height (m ((c : Thread nD τ).loc main_arg1))))) := by subst hX; after_reads_simp; rfl
  have h58 : X (Proc.devRef .tc main_v58) = asRow (fptosi 32 (lowBins (midCol (m ((c : Thread nD τ).loc main_arg1))) (width (m ((c : Thread nD τ).loc main_arg1))))) := by subst hX; after_reads_simp; rfl
  have h59 : X (Proc.devRef .tc main_v59) = asRow (fptosi 32 (highBins (midCol (m ((c : Thread nD τ).loc main_arg1))) (width (m ((c : Thread nD τ).loc main_arg1))))) := by subst hX; after_reads_simp; rfl
  change rows6 (X (Proc.devRef .tc main_v54)) (X (Proc.devRef .tc main_v55)) (X (Proc.devRef .tc main_v56)) (X (Proc.devRef .tc main_v57)) (X (Proc.devRef .tc main_v58)) (X (Proc.devRef .tc main_v59)) = _
  rw [h54, h55, h56, h57, h58, h59]
  rfl

end Cert.KernelIdeal.Gen
-- ==== Proof.Words.lean ====
/-
  The table's words, one by one: where a grid point reads them, and that the blocks they name lie inside the array.
-/
module

public import proofs.«01_k».proof.Proof.Body
public import proofs.«01_k».proof.Proof.Table
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL
open scoped Idealize.SL.BI

variable {F : FTy → Type} [FloatOps F]

/-! ## The table read at a row and a column -/

/-- A row of the table read in a column. -/
theorem rows6_apply (v : Fin 6 → IContents S7 32) (k : Fin 6) (q : Fin 7) :
    rows6 (asRow (v 0)) (asRow (v 1)) (asRow (v 2)) (asRow (v 3)) (asRow (v 4)) (asRow (v 5)) (ix2 k q) = v k (ix1 q) := by
  unfold rows6 asRow
  fin_cases k <;> pointwise

/-- The one element of a unit rectangle of the table is the one at its offsets. -/
theorem unit_idx (o : Fin 2 → ℕ) (ho : ∀ a, o a + S1x1.size a ≤ S6x7.size a) (k : Fin 6) (q : Fin 7) (h : o = ![k.val, q.val])
    (j : (Rect.unit (s := S6x7) o S1x1.size ho).shape.Idx) : (Rect.unit (s := S6x7) o S1x1.size ho).idx j = ix2 k q := by
  subst h
  funext a
  refine Fin.ext ?_
  show ![k.val, q.val] a + 1 * (j a).val = _
  have h0 : (j a).val < 1 := by
    have := (j a).isLt; revert this; fin_cases a <;> exact id
  fin_cases a
  · show k.val + 1 * (j 0).val = k.val; have : (j 0).val < 1 := h0; omega
  · show q.val + 1 * (j 1).val = q.val; have : (j 1).val < 1 := h0; omega

/-- The word of a table at given offsets. -/
theorem word_eq {c : Dev nD} (o : Fin 2 → ℕ) (ho : ∀ a, o a + S1x1.size a ≤ S6x7.size a) (T : TbBuf0 (F := F) c tbM0_0) (k : Fin 6) (q : Fin 7)
    (h : o = ![k.val, q.val]) : word o ho T = (T : IContents S6x7 32) (ix2 k q) :=
  congrArg (T : IContents S6x7 32) (unit_idx o ho k q h _)

/-! ## The bins a grid point belongs to -/

/-- The bin row and the bin column of a grid point. -/
def binR (i : grid0.Coords) : Fin 7 := ⟨(i 0).val / 7, by have h : (i 0).val < 49 := (i 0).isLt; omega⟩
@[inherit_doc binR] def binC (i : grid0.Coords) : Fin 7 := ⟨(i 0).val % 7, by omega⟩

/-- A grid point of bin `n`. -/
def atBin (n : Fin 49) : grid0.Coords := fun | 0 => n | 1 => (0 : Fin 2) | 2 => (0 : Fin 2)

/-- The offsets of the six words a grid point reads: a row of the table, and the bin row or the bin column. -/
theorem off1_eq (i : grid0.Coords) : k0_off1 i = ![(0 : Fin 6).val, (binR i).val] :=
  (show ∀ n : Fin 49, k0_off1 (atBin n) = ![0, n.val / 7] by decide) (i 0)
@[inherit_doc off1_eq] theorem off2_eq (i : grid0.Coords) : k0_off2 i = ![(1 : Fin 6).val, (binC i).val] :=
  (show ∀ n : Fin 49, k0_off2 (atBin n) = ![1, n.val % 7] by decide) (i 0)
@[inherit_doc off1_eq] theorem off3_eq (i : grid0.Coords) : k0_off3 i = ![(2 : Fin 6).val, (binR i).val] :=
  (show ∀ n : Fin 49, k0_off3 (atBin n) = ![2, n.val / 7] by decide) (i 0)
@[inherit_doc off1_eq] theorem off4_eq (i : grid0.Coords) : k0_off4 i = ![(3 : Fin 6).val, (binR i).val] :=
  (show ∀ n : Fin 49, k0_off4 (atBin n) = ![3, n.val / 7] by decide) (i 0)
@[inherit_doc off1_eq] theorem off5_eq (i : grid0.Coords) : k0_off5 i = ![(4 : Fin 6).val, (binC i).val] :=
  (show ∀ n : Fin 49, k0_off5 (atBin n) = ![4, n.val % 7] by decide) (i 0)
@[inherit_doc off1_eq] theorem off6_eq (i : grid0.Coords) : k0_off6 i = ![(5 : Fin 6).val, (binC i).val] :=
  (show ∀ n : Fin 49, k0_off6 (atBin n) = ![5, n.val % 7] by decide) (i 0)

/-! ## The table's words name blocks of the array -/

/-- A word brought into `0 … 7` is one of the eight. -/
theorem clip7_le (v : IContents S7 32) (q : S7.Idx) : (clip7 v q).toNat ≤ 7 := by
  show (IntOp.minsi 7#32 (IntOp.maxsi 0#32 (v q))).toNat ≤ 7
  generalize v q = x
  unfold IntOp.minsi IntOp.maxsi
  rw [BitVec.slt_eq_decide, BitVec.slt_eq_decide]
  have e7 : (7#32).toInt = 7 := by decide
  have e0 : (0#32).toInt = 0 := by decide
  rw [e0]
  by_cases hx : x.toInt < 0
  · simp [hx]
  · by_cases h7 : 7 < x.toInt
    · simp [hx, h7]
    · have := BitVec.toInt_eq_toNat_cond x
      simp [hx, h7]
      split at this <;> omega

/-- Such a word plus 0 or 1, kept at most 7, is one of the eight. -/
theorem next_le (x : BitVec 32) (hx : x.toNat ≤ 7) (a : ℕ) (ha : a < 2) : (Scalar.minsi (Scalar.addi x (BitVec.ofNat 32 a)) 7#32).toNat ≤ 7 ∧
    (Scalar.minsi (Scalar.addi x (BitVec.ofNat 32 a)) 7#32).toNat = min (x.toNat + a) 7 := by
  obtain ⟨n, hn, rfl⟩ : ∃ n : ℕ, n ≤ 7 ∧ x = BitVec.ofNat 32 n := ⟨x.toNat, hx, by simp⟩
  interval_cases n <;> interval_cases a <;> decide

/-- Whatever the region, the blocks the table names lie inside the array. -/
theorem ok_table (m : (ℓ : Loc nD τ sig) → Buf (Elt F) ℓ) : Ok m := by
  have hT : ∀ k q, (tbl m 0 : IContents S6x7 32) (ix2 k q) = table (m (((0 : Dev nD) : Thread nD τ).loc main_arg1)) (ix2 k q) := fun k q =>
    congrFun (V_v60 m 0) (ix2 k q)
  intro i
  have w0 : ((tbl m).at 0 (Rect.unit (s := S6x7) (k0_off1 i) S1x1.size (k0_off1_inb i)) numel1_S1x1 : BitVec 32).toNat ≤ 7 := by
    exact (congrArg BitVec.toNat ((congrArg (tbl m 0 : IContents S6x7 32) (unit_idx _ _ 0 (binR i) (off1_eq i) _)).trans (hT 0 (binR i)))).trans_le
      ((congrArg BitVec.toNat (rows6_apply ![_, _, _, _, _, _] 0 (binR i))).trans_le (clip7_le _ _))
  have w1 : ((tbl m).at 0 (Rect.unit (s := S6x7) (k0_off2 i) S1x1.size (k0_off2_inb i)) numel1_S1x1 : BitVec 32).toNat ≤ 7 := by
    exact (congrArg BitVec.toNat ((congrArg (tbl m 0 : IContents S6x7 32) (unit_idx _ _ 1 (binC i) (off2_eq i) _)).trans (hT 1 (binC i)))).trans_le
      ((congrArg BitVec.toNat (rows6_apply ![_, _, _, _, _, _] 1 (binC i))).trans_le (clip7_le _ _))
  refine ⟨fun a => ?_, Or.inl rfl⟩
  have h0 : (i 0).val < 49 := (i 0).isLt
  have h1 := next_le _ w1 (i 1).val (i 1).isLt
  have h2 := next_le _ w0 (i 2).val (i 2).isLt
  fin_cases a
  · show ((BitVec.ofNat 32 (i 0).val).toNat + 1) * 1 ≤ 49
    rw [BitVec.toNat_ofNat]; omega
  · refine (Nat.mul_le_mul_right 128 (Nat.succ_le_succ h2.1)).trans (by decide)
  · refine (Nat.mul_le_mul_right 128 (Nat.succ_le_succ h1.1)).trans (by decide)

end Cert.KernelIdeal.Gen
-- ==== Proof.Result.lean ====
/-
  What the program returns: the mean, over the 49 bins, of the sums the launch leaves divided by the counts of the bins'
  rows and columns; and that the arguments stay as they were.
-/
module

public import proofs.«01_k».proof.Proof.Region
public import proofs.«01_k».proof.Proof.Words

@[expose] public section

set_option maxRecDepth 16384

noncomputable section

namespace Cert.KernelIdeal.Gen

open Idealize.ShloMosaic Idealize.ShloMosaic.TcCoe Idealize.ShloMosaic.Tactic
open Idealize.SL Idealize.SL.Sem
open scoped Idealize.SL.BI
open Idealize.ShloMosaic.Pipeline (Dat Cfg Window)

variable {F : FTy → Type} [FloatOps F]

/-! ## The operations after the launch -/

/-- How many of the rows (or columns) `0 … 1023` a bin has, from its two bounds: the difference of the bounds brought
    into the array, or 0 where that is negative. -/
def counts (lo hi : IContents S7 32) : FContents F S7 .f32 :=
  sitofp .f32 (maxsi (broadcastInDim S7 ![] bcast_S_S7 (constantI S_ 32 0#32))
    (subi (minsi hi (broadcastInDim S7 ![] bcast_S_S7 (constantI S_ 32 1024#32))) (maxsi lo (broadcastInDim S7 ![] bcast_S_S7 (constantI S_ 32 0#32)))) : IContents S7 32)

/-- The first element of every bin's block, as a 7 × 7 array. -/
def binSums (out : FContents F S49x8x128 .f32) : FContents F S7x7 .f32 :=
  shapeCast S7x7 (shapeCast S49 (extractStridedSlice S49x1x1 ![0, 0, 0] out slices_S49x8x128_S49x1x1_0_0_0) shapeCasts_S49x1x1_S49) shapeCasts_S49_S7x7

/-- The mean over the bins of the sums `s` divided by the products of the row counts and the column counts. -/
def meanOf (s : FContents F S7x7 .f32) (ni nj : FContents F S7 .f32) : FContents F S_ .f32 :=
  Host.divf (Host.reduceAdd (Host.divf s
      (mulf (broadcastInDim S7x7 ![0, 1] bcast_S7x1_S7x7_0_1 (broadcastInDim S7x1 ![0] bcast_S7_S7x1_0 ni))
        (broadcastInDim S7x7 ![0, 1] bcast_S1x7_S7x7_0_1 (broadcastInDim S1x7 ![1] bcast_S7_S1x7_1 nj))))
    (constant S_ .f32 0x00000000#32) reducesTo_S7x7_S_d0_1 h_S_) (constant S_ .f32 0x42440000#32)

variable (m : (ℓ : Loc nD τ sig) → Buf (Elt F) ℓ) (ρ : Dev nD → PrngReg)

/-- The output array when the launch has ended. -/
def outArr (hO : Ok m) (c : Dev nD) : FContents F S49x8x128 .f32 := (dats m hO 0 c).arrAt 1 (cfgM m hO).N

set_option maxHeartbeats 600000 in
/-- What the result holds when the program ends: the mean of the launch's sums, at the bounds of the region. -/
theorem endsAt_v86 (hO : Ok m) (c : Dev nD) : endsAt m hO c main_v86
    = meanOf (binSums (outArr m hO c)) (counts (V m c main_v28) (V m c main_v35)) (counts (V m c main_v42) (V m c main_v49)) := by
  unfold endsAt Pipeline.afterTail
  generalize hX : Pipeline.withArrays _ c (V0 m c) _ = X
  have h61 : X (Proc.devRef .tc main_v61) = outArr m hO c := by
    subst hX
    exact Pipeline.withArrays_arr spec0 (by decide) c (V0 m c) _ 1
  have h28 : X (Proc.devRef .tc main_v28) = V m c main_v28 := by
    subst hX
    exact Pipeline.withArrays_of_ne _ c (V0 m c) _ main_v28 (by exact (by decide : ∀ w, Pipeline.arrRef spec0 w ≠ main_v28))
  have h35 : X (Proc.devRef .tc main_v35) = V m c main_v35 := by
    subst hX
    exact Pipeline.withArrays_of_ne _ c (V0 m c) _ main_v35 (by exact (by decide : ∀ w, Pipeline.arrRef spec0 w ≠ main_v35))
  have h42 : X (Proc.devRef .tc main_v42) = V m c main_v42 := by
    subst hX
    exact Pipeline.withArrays_of_ne _ c (V0 m c) _ main_v42 (by exact (by decide : ∀ w, Pipeline.arrRef spec0 w ≠ main_v42))
  have h49 : X (Proc.devRef .tc main_v49) = V m c main_v49 := by
    subst hX
    exact Pipeline.withArrays_of_ne _ c (V0 m c) _ main_v49 (by exact (by decide : ∀ w, Pipeline.arrRef spec0 w ≠ main_v49))
  rw [← h28, ← h35, ← h42, ← h49, ← h61]
  clear hX h28 h35 h42 h49 h61
  simp only [hostOps1, hostOps1_1, hostOps1_2, hostOps1_3, hostOps1_4, List.flatten_cons, List.flatten_nil, List.append_nil, List.cons_append, List.nil_append]
  after_reads_simp
  simp -implicitDefEqProofs only [StableHlo.TRef.toBuf, StableHlo.TRef.ofBuf, cast_cast, cast_eq, id]
  rfl

/-! ## The run -/

/-- Every execution ends with the result at `endsAt`, the arguments unchanged and every semaphore counter at zero. -/
theorem run_result (hO : Ok m) : θ_run defs (onTc (τ := τ) (main (F := F))) (s₀ m ρ) (fun r => (∀ c : Dev nD,
      r.2.mem ((c : Thread nD τ).loc main_v86) = endsAt m hO c main_v86
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c).2 main_v86 (by exact (by decide : main_v86 ∈ Pipeline.restRefs sig spec0)),
      ((h.1 c).1 0).trans (((dats m hO 0 c).arrAt_in 0 rfl _).trans (((A_eq m hO c 0).trans (V_main_arg0 m c)))),
      ((h.1 c).2 main_arg1 (by exact (by decide : main_arg1 ∈ Pipeline.restRefs sig spec0))).trans (W_main_arg1 m hO (dats m hO) c)⟩, h.2⟩) (run_main m ρ hO)

/-- The frame: every execution ends, with the arguments unchanged and every semaphore counter at zero. -/
theorem run_frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => (h.1 c).2, h.2⟩) (run_result m ρ (ok_table m))

end Cert.KernelIdeal.Gen
-- ==== Proof.Same.lean ====
/-
  The kernel and its idealization are the same text: no operation was rewritten. So the two programs are equal, at any
  instance of the floats, and what is proved of the one holds of the other.
-/
module

public import proofs.«01_k».proof.Proof.Gen.Kernel
public import proofs.«01_k».proof.Proof.Gen.Kernel.Launch
public import proofs.«01_k».proof.Proof.Result

@[expose] public section

set_option maxRecDepth 16384

noncomputable section

namespace Cert.Kernel.Gen

open Idealize.ShloMosaic Idealize.ShloMosaic.TcCoe Idealize.SL.Sem

variable {F : FTy → Type} [FloatOps F]

/-- The kernel bodies are equal. -/
theorem bodies_eq : Cert.Kernel.defs₀ (F := F) = Cert.KernelIdeal.defs₀ (F := F) :=
  congrArg (Defs.onTc (nD := nD) (τ := τ) (sig := sig) (Val := Elt F) (Λ := Λ₀)) (by
    funext l a
    match l, a with
    | 0, (t, s) => rfl
    | ⟨_ + 1, h⟩, _ => exact absurd h (Nat.not_lt.2 (Nat.le_add_left _ _)))

/-- The launches with these bodies are equal. -/
theorem defs_eq : Cert.Kernel.defs (F := F) = Cert.KernelIdeal.defs (F := F) :=
  congrArg (Pipeline.defs (nD := nD) (τ := τ) pcfgs) bodies_eq

/-- Lists with equal heads and equal tails are equal. -/
theorem cons_eq {α : Type*} {a b : α} {l k : List α} (h : a = b) (h' : l = k) : a :: l = b :: k := by rw [h, h']

set_option maxHeartbeats 1000000 in
/-- The host programs are equal, one stretch of operations after another. -/
theorem main_eq : Cert.Kernel.main (F := F) = Cert.KernelIdeal.main (F := F) := by
  funext c
  exact (main_chain c).trans ((congrArg Pipeline.chain
    (cons_eq (congrArg StableHlo.seq (rfl : hostOps0 = Cert.KernelIdeal.Gen.hostOps0))
    (cons_eq (congrArg StableHlo.seq (rfl : hostOps0_1 = Cert.KernelIdeal.Gen.hostOps0_1))
    (cons_eq (congrArg StableHlo.seq (rfl : hostOps0_2 = Cert.KernelIdeal.Gen.hostOps0_2))
    (cons_eq (congrArg StableHlo.seq (rfl : hostOps0_3 = Cert.KernelIdeal.Gen.hostOps0_3))
    (cons_eq (congrArg StableHlo.seq (rfl : hostOps0_4 = Cert.KernelIdeal.Gen.hostOps0_4))
    (cons_eq (congrArg StableHlo.seq (rfl : hostOps0_5 = Cert.KernelIdeal.Gen.hostOps0_5))
    (cons_eq (congrArg StableHlo.seq (rfl : hostOps0_6 = Cert.KernelIdeal.Gen.hostOps0_6))
    (cons_eq (congrArg StableHlo.seq (rfl : hostOps0_7 = Cert.KernelIdeal.Gen.hostOps0_7))
    (cons_eq (congrArg StableHlo.seq (rfl : hostOps0_8 = Cert.KernelIdeal.Gen.hostOps0_8))
    (cons_eq (congrArg StableHlo.seq (rfl : hostOps0_9 = Cert.KernelIdeal.Gen.hostOps0_9))
    (cons_eq (congrArg StableHlo.seq (rfl : hostOps0_10 = Cert.KernelIdeal.Gen.hostOps0_10))
    (cons_eq (congrArg StableHlo.seq (rfl : hostOps0_11 = Cert.KernelIdeal.Gen.hostOps0_11))
    (cons_eq (congrArg StableHlo.seq (rfl : hostOps0_12 = Cert.KernelIdeal.Gen.hostOps0_12))
    (cons_eq rfl
    (cons_eq (congrArg StableHlo.seq (rfl : hostOps1 = Cert.KernelIdeal.Gen.hostOps1))
    (cons_eq (congrArg StableHlo.seq (rfl : hostOps1_1 = Cert.KernelIdeal.Gen.hostOps1_1))
    (cons_eq (congrArg StableHlo.seq (rfl : hostOps1_2 = Cert.KernelIdeal.Gen.hostOps1_2))
    (cons_eq (congrArg StableHlo.seq (rfl : hostOps1_3 = Cert.KernelIdeal.Gen.hostOps1_3))
    (cons_eq (congrArg StableHlo.seq (rfl : hostOps1_4 = Cert.KernelIdeal.Gen.hostOps1_4))
    rfl)))))))))))))))))))).trans
    (Cert.KernelIdeal.Gen.main_chain c).symm)

variable (m : (ℓ : Loc nD τ sig) → Buf (Elt F) ℓ) (ρ : Dev nD → PrngReg)

/-- The frame of the kernel: every execution ends, with the arguments unchanged and every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  rw [defs_eq, main_eq]
  exact Cert.KernelIdeal.Gen.run_frame m ρ

end Cert.Kernel.Gen
-- ==== Proof.Reference.lean ====
/-
  The reference's result: the mean, over the 49 bins, of the sums of the images weighted by the bins' masks, divided by
  the sums of the masks.
-/
module

public import proofs.«01_k».proof.Proof.Result
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.KernelIdeal.Gen (FContents IContents lowBins highBins midRow midCol height width meanOf)

variable {F : FTy → Type} [FloatOps F]

/-- The positions `0 … 1023`, once per bin. -/
def positions : FContents F S7x1024 .f32 :=
  broadcastInDim S7x1024 ![0, 1] bcast_S1x1024_S7x1024_0_1 (broadcastInDim S1x1024 ![1] bcast_S1024_S1x1024_1 (sitofp .f32 (iotaInDim S1024 32 0)))

/-- A bound of every bin, once per position. -/
def perPosition (b : FContents F S7 .f32) : FContents F S7x1024 .f32 :=
  broadcastInDim S7x1024 ![0, 1] bcast_S7x1_S7x1024_0_1 (broadcastInDim S7x1 ![0] bcast_S7_S7x1_0 b)

/-- The masks of the bins with the bounds `lo` and `hi`: 1 at the positions from `lo` on and before `hi`, 0 elsewhere. -/
def masks (lo hi : FContents F S7 .f32) : FContents F S7x1024 .f32 :=
  uitofp .f32 (andi (cmpf .oge positions (perPosition lo)) (cmpf .olt positions (perPosition hi)))

/-- The sums of the images weighted by the row masks `mi` and the column masks `mj`. -/
def sums (x : FContents F S49x1024x1024 .f32) (mi mj : FContents F S7x1024 .f32) : FContents F S7x7 .f32 :=
  transpose S7x7 [1, 0] (Host.dotGeneral dot_S7x7x1024_S7x1024_S7x7_2_1_0_n_1_0 none
    (Host.dotGeneral dot_S7x7x1024x1024_S7x1024_S7x7x1024_2_1_13_n_0_0 none (shapeCast S7x7x1024x1024 x shapeCasts_S49x1024x1024_S7x7x1024x1024) mi) mj) transposes_S7x7_S7x7_1_0

/-- The number of positions of every bin: the sum of its mask. -/
def sizes (mk : FContents F S7x1024 .f32) : FContents F S7 .f32 := Host.reduceAdd mk (constant S_ .f32 0x00000000#32) reducesTo_S7x1024_S7_d1 h_S_

variable (m : (ℓ : Loc nD τ sig) → Buf (Elt F) ℓ)

/-- The masks of the region's bins are made of the bounds the kernel's table is made of. -/
theorem result_eq (c : Dev nD) :
    let reg : FContents F S4 .f32 := m ((c : Thread nD τ).loc main_arg1)
    let mi := masks (lowBins (midRow reg) (height reg)) (highBins (midRow reg) (height reg))
    let mj := masks (lowBins (midCol reg) (width reg)) (highBins (midCol reg) (width reg))
    res_main_v85 m c = meanOf (sums (m ((c : Thread nD τ).loc main_arg0)) mi mj) (sizes mi) (sizes mj) := by
  exact rfl

end Cert.ReferenceIdeal.Value
-- ==== Proof.Output.lean ====
/-
  What the launch leaves in the output array: every element of bin `k`'s block is what the last visit of the bin left in
  the output buffer; and the part of the image that a visit's block is.
-/
module

public import proofs.«01_k».proof.Proof.Result

@[expose] public section

set_option maxRecDepth 16384

noncomputable section

namespace Cert.KernelIdeal.Gen

open Idealize.ShloMosaic Idealize.ShloMosaic.TcCoe Idealize.ShloMosaic.Tactic
open Idealize.SL Idealize.SL.Sem
open scoped Idealize.SL.BI
open Idealize.ShloMosaic.Pipeline (Dat Cfg Window)

variable {F : FTy → Type} [FloatOps F]
variable (m : (ℓ : Loc nD τ sig) → Buf (Elt F) ℓ)

/-- The coordinates of a grid point. -/
theorem coord0 (t : Fin grid0.N) : (grid0.coords t 0).val = t.val / 4 % 49 := Pipeline.Grid.coords_val t 0 (by decide) rfl
@[inherit_doc coord0] theorem coord1 (t : Fin grid0.N) : (grid0.coords t 1).val = t.val / 2 % 2 := Pipeline.Grid.coords_val t 1 (by decide) rfl
@[inherit_doc coord0] theorem coord2 (t : Fin grid0.N) : (grid0.coords t 2).val = t.val % 2 := by
  have e : (grid0.coords t 2).val = t.val / 1 % 2 := Pipeline.Grid.coords_val t 2 (by decide) rfl
  rw [e, Nat.div_one]

/-! ## The output array -/

/-- The array of the last visits' blocks. -/
def lastArr (hO : Ok m) (c : Dev nD) : FContents F S49x8x128 .f32 := fun i => lastAt m hO c (i 0).val (ix3 0 (i 1) (i 2))

/-- Where an element of the output block of point `t` lies in the output array. -/
def outPos (hO : Ok m) (t : Fin grid0.N) (y : S1x8x128.Idx) : S49x8x128.Idx := (((cfgM m hO).win 1).rect t).emb y

/-- It is an element of bin `t / 4`'s block, at the same row and column. -/
theorem outPos_eq (hO : Ok m) (t : Fin grid0.N) (y : S1x8x128.Idx) :
    outPos m hO t y = ix3 ⟨t.val / 4, by have : t.val < 196 := t.isLt.trans_eq N_0; omega⟩ (y 1) (y 2) := by
  have hN : t.val < 196 := t.isLt.trans_eq N_0
  have hy : (y 0 : ℕ) < 1 := (y 0).isLt
  have e0 : (outPos m hO t y 0 : ℕ) = (BitVec.ofNat 32 (grid0.coords t 0).val).toNat * 1 + y 0 := Window.rect_emb_val ((cfgM m hO).win 1) t y (0 : Fin 3)
  have e1 : (outPos m hO t y 1 : ℕ) = 0 * 8 + y 1 := Window.rect_emb_val ((cfgM m hO).win 1) t y (1 : Fin 3)
  have e2 : (outPos m hO t y 2 : ℕ) = 0 * 128 + y 2 := Window.rect_emb_val ((cfgM m hO).win 1) t y (2 : Fin 3)
  rw [coord0, BitVec.toNat_ofNat] at e0
  funext a
  refine Fin.ext ?_
  fin_cases a
  · show (outPos m hO t y 0 : ℕ) = t.val / 4
    omega
  · show (outPos m hO t y 1 : ℕ) = y 1
    omega
  · show (outPos m hO t y 2 : ℕ) = y 2
    omega

/-- Each block written back is that array's. -/
theorem flushed_eq (hO : Ok m) (c : Dev nD) (t : Fin (cfgM m hO).N) (hf : ((cfgM m hO).win 1).flush t = true) :
    (dats m hO 0 c).flushed 1 t = (((cfgM m hO).win 1).blk t).view.read (Elt F) (lastArr m hO c) := by
  have h3 : t.val % 4 = 3 := (flush0_1 (adm m hO) t).mp hf
  show ((cfgM m hO).win 1).cut (grid0.coords t) ((dats m hO 0 c).after 1 t) = _
  rw [after0_1]
  unfold outAt
  rw [if_pos h3]
  refine funext fun (y : S1x8x128.Idx) => ?_
  show lastAt m hO c (t.val / 4) y = lastArr m hO c (outPos m hO t y)
  rw [outPos_eq]
  show lastAt m hO c (t.val / 4) y = lastAt m hO c (t.val / 4) (ix3 0 (y 1) (y 2))
  congr 1
  funext a
  refine Fin.ext ?_
  have hy : (y 0 : ℕ) < 1 := (y 0).isLt
  fin_cases a
  · show (y 0 : ℕ) = 0
    omega
  · rfl
  · rfl

/-- The launch leaves that array. -/
theorem outArr_eq (hO : Ok m) (c : Dev nD) : outArr m hO c = lastArr m hO c := by
  refine (dats m hO 0 c).arrAt_eq_of_cover 1 (lastArr m hO c) (flushed_eq m hO c) fun (i : S49x8x128.Idx) => ?_
  have h0 : (i 0 : ℕ) < 49 := (i 0).isLt
  have hv : (pt (4 * (i 0 : ℕ) + 3)).val = 4 * (i 0 : ℕ) + 3 := Nat.mod_eq_of_lt (by omega)
  refine ⟨pt (4 * (i 0 : ℕ) + 3), (flush0_1 (adm m hO) _).mpr (by rw [hv]; omega), ?_⟩
  generalize pt (4 * (i 0 : ℕ) + 3) = t at hv
  have hi : i = outPos m hO t (ix3 0 (i 1) (i 2)) := by
    rw [outPos_eq]
    funext a
    refine Fin.ext ?_
    fin_cases a
    · show (i 0 : ℕ) = t.val / 4
      omega
    · rfl
    · rfl
  exact hi ▸ View.emb_mem_set (((cfgM m hO).win 1).blk t).view (ix3 0 (i 1) (i 2))

/-! ## A visit's words and its block of the image -/

/-- The first row of each bin and the row after it, the first column of each bin and the column after it, as words. -/
def rowLo (reg : FContents F S4 .f32) : IContents S7 32 := fptosi 32 (lowBins (midRow reg) (height reg))
@[inherit_doc rowLo] def rowHi (reg : FContents F S4 .f32) : IContents S7 32 := fptosi 32 (highBins (midRow reg) (height reg))
@[inherit_doc rowLo] def colLo (reg : FContents F S4 .f32) : IContents S7 32 := fptosi 32 (lowBins (midCol reg) (width reg))
@[inherit_doc rowLo] def colHi (reg : FContents F S4 .f32) : IContents S7 32 := fptosi 32 (highBins (midCol reg) (width reg))

/-- The region the program is given, and the image. -/
abbrev regOf (c : Dev nD) : FContents F S4 .f32 := m ((c : Thread nD τ).loc main_arg1)
@[inherit_doc regOf] abbrev imgOf (c : Dev nD) : FContents F S49x1024x1024 .f32 := m ((c : Thread nD τ).loc main_arg0)

/-- The table's words at a row and a column. -/
theorem tbl_at (c : Dev nD) (k : Fin 6) (q : Fin 7) : (tbl m 0 : IContents S6x7 32) (ix2 k q)
    = (![clip7 (block (rowLo (regOf m c))), clip7 (block (colLo (regOf m c))), rowLo (regOf m c), rowHi (regOf m c), colLo (regOf m c), colHi (regOf m c)] : Fin 6 → IContents S7 32) k (ix1 q) := by
  obtain rfl : c = 0 := Subsingleton.elim _ _
  exact (congrFun (V_v60 m 0) (ix2 k q)).trans (rows6_apply ![clip7 (block (rowLo (regOf m 0))), clip7 (block (colLo (regOf m 0))), rowLo (regOf m 0), rowHi (regOf m 0), colLo (regOf m 0), colHi (regOf m 0)] k q)

/-- The six words a visit reads. -/
theorem word1 (c : Dev nD) (i : grid0.Coords) : word (c := c) (k0_off1 i) (k0_off1_inb i) (tbl m 0) = clip7 (block (rowLo (regOf m c))) (ix1 (binR i)) :=
  (word_eq _ _ _ 0 (binR i) (off1_eq i)).trans (tbl_at m c 0 (binR i))
@[inherit_doc word1] theorem word2 (c : Dev nD) (i : grid0.Coords) : word (c := c) (k0_off2 i) (k0_off2_inb i) (tbl m 0) = clip7 (block (colLo (regOf m c))) (ix1 (binC i)) :=
  (word_eq _ _ _ 1 (binC i) (off2_eq i)).trans (tbl_at m c 1 (binC i))
@[inherit_doc word1] theorem word3 (c : Dev nD) (i : grid0.Coords) : word (c := c) (k0_off3 i) (k0_off3_inb i) (tbl m 0) = rowLo (regOf m c) (ix1 (binR i)) :=
  (word_eq _ _ _ 2 (binR i) (off3_eq i)).trans (tbl_at m c 2 (binR i))
@[inherit_doc word1] theorem word4 (c : Dev nD) (i : grid0.Coords) : word (c := c) (k0_off4 i) (k0_off4_inb i) (tbl m 0) = rowHi (regOf m c) (ix1 (binR i)) :=
  (word_eq _ _ _ 3 (binR i) (off4_eq i)).trans (tbl_at m c 3 (binR i))
@[inherit_doc word1] theorem word5 (c : Dev nD) (i : grid0.Coords) : word (c := c) (k0_off5 i) (k0_off5_inb i) (tbl m 0) = colLo (regOf m c) (ix1 (binC i)) :=
  (word_eq _ _ _ 4 (binC i) (off5_eq i)).trans (tbl_at m c 4 (binC i))
@[inherit_doc word1] theorem word6 (c : Dev nD) (i : grid0.Coords) : word (c := c) (k0_off6 i) (k0_off6_inb i) (tbl m 0) = colHi (regOf m c) (ix1 (binC i)) :=
  (word_eq _ _ _ 5 (binC i) (off6_eq i)).trans (tbl_at m c 5 (binC i))

/-- The block row and the block column a visit's bin begins in. -/
def rowStart (c : Dev nD) (i : grid0.Coords) : ℕ := (clip7 (block (rowLo (regOf m c))) (ix1 (binR i))).toNat
@[inherit_doc rowStart] def colStart (c : Dev nD) (i : grid0.Coords) : ℕ := (clip7 (block (colLo (regOf m c))) (ix1 (binC i))).toNat

/-- The block row and the block column a visit takes. -/
theorem rowBlk_toNat (c : Dev nD) (i : grid0.Coords) : (rowBlk (c := c) i (tbl m 0)).toNat = min (rowStart m c i + (i 2).val) 7 := by
  unfold rowBlk
  rw [word1]
  exact (next_le _ (clip7_le _ _) (i 2).val (i 2).isLt).2
@[inherit_doc rowBlk_toNat] theorem colBlk_toNat (c : Dev nD) (i : grid0.Coords) : (colBlk (c := c) i (tbl m 0)).toNat = min (colStart m c i + (i 1).val) 7 := by
  unfold colBlk
  rw [word2]
  exact (next_le _ (clip7_le _ _) (i 1).val (i 1).isLt).2

/-- The image of one bin at a row and a column. -/
def imgAt (x : FContents F S49x1024x1024 .f32) (k r s : ℕ) : F .f32 := x (ix3 (Fin.ofNat 49 k) (Fin.ofNat 1024 r) (Fin.ofNat 1024 s))

/-- Where an element of a visit's block lies in the image. -/
def inPos (hO : Ok m) (t : Fin grid0.N) (y : S1x128x128.Idx) : S49x1024x1024.Idx := (((cfgM m hO).win 0).rect t).emb y

/-- It lies in the bin's image, at the rows and the columns of the visit's blocks. -/
theorem inPos0 (hO : Ok m) (t : Fin grid0.N) (y : S1x128x128.Idx) :
    (inPos m hO t y 0 : ℕ) = (BitVec.ofNat 32 (grid0.coords t 0).val).toNat * 1 + y 0 := Window.rect_emb_val ((cfgM m hO).win 0) t y (0 : Fin 3)
/-- The word of the table the launch takes for a visit's block row, and the one for its block column. -/
theorem at1 (c : Dev nD) (i : grid0.Coords) : ((tbl m).at 0 (Rect.unit (s := S6x7) (k0_off1 i) S1x1.size (k0_off1_inb i)) numel1_S1x1 : BitVec 32)
    = clip7 (block (rowLo (regOf m c))) (ix1 (binR i)) :=
  (congrArg (tbl m 0 : IContents S6x7 32) (unit_idx _ _ 0 (binR i) (off1_eq i) _)).trans (tbl_at m c 0 (binR i))
@[inherit_doc at1] theorem at2 (c : Dev nD) (i : grid0.Coords) : ((tbl m).at 0 (Rect.unit (s := S6x7) (k0_off2 i) S1x1.size (k0_off2_inb i)) numel1_S1x1 : BitVec 32)
    = clip7 (block (colLo (regOf m c))) (ix1 (binC i)) :=
  (congrArg (tbl m 0 : IContents S6x7 32) (unit_idx _ _ 1 (binC i) (off2_eq i) _)).trans (tbl_at m c 1 (binC i))
/-- The block row and the block column the launch takes for a visit. -/
theorem index1 (c : Dev nD) (i : grid0.Coords) : cc0_transform_0 k0_off1_inb numel1_S1x1 k0_off2_inb (tbl m) i 1 = min (rowStart m c i + (i 2).val) 7 := by
  have e : cc0_transform_0 k0_off1_inb numel1_S1x1 k0_off2_inb (tbl m) i 1
    = (Scalar.minsi (Scalar.addi ((tbl m).at 0 (Rect.unit (s := S6x7) (k0_off1 i) S1x1.size (k0_off1_inb i)) numel1_S1x1 : BitVec 32) (BitVec.ofNat 32 (i 2).val)) 7#32).toNat := rfl
  rw [e, at1 m c i]
  exact (next_le _ (clip7_le _ _) (i 2).val (i 2).isLt).2
@[inherit_doc index1] theorem index2 (c : Dev nD) (i : grid0.Coords) : cc0_transform_0 k0_off1_inb numel1_S1x1 k0_off2_inb (tbl m) i 2 = min (colStart m c i + (i 1).val) 7 := by
  have e : cc0_transform_0 k0_off1_inb numel1_S1x1 k0_off2_inb (tbl m) i 2
    = (Scalar.minsi (Scalar.addi ((tbl m).at 0 (Rect.unit (s := S6x7) (k0_off2 i) S1x1.size (k0_off2_inb i)) numel1_S1x1 : BitVec 32) (BitVec.ofNat 32 (i 1).val)) 7#32).toNat := rfl
  rw [e, at2 m c i]
  exact (next_le _ (clip7_le _ _) (i 1).val (i 1).isLt).2
attribute [local irreducible] cc0_transform_0 in
/-- The blocks the launch takes at a point, by the axes. -/
theorem index_eq (hO : Ok m) (t : Fin grid0.N) (a : Fin 3) : ((cfgM m hO).win 0).index t a = cc0_transform_0 k0_off1_inb numel1_S1x1 k0_off2_inb (tbl m) (grid0.coords t) a := by
  exact (congrFun (show ix0 (tbl m) 0 (grid0.coords t) = cc0_transform_0 k0_off1_inb numel1_S1x1 k0_off2_inb (tbl m) (grid0.coords t) from by exact rfl) a : _)
/-- The place of an element on each axis, from the block the launch takes. -/
theorem inPos_val (hO : Ok m) (t : Fin grid0.N) (y : S1x128x128.Idx) (a : Fin 3) :
    (inPos m hO t y a : ℕ) = cc0_transform_0 k0_off1_inb numel1_S1x1 k0_off2_inb (tbl m) (grid0.coords t) a * S1x128x128.size a + y a := by
  have h : (inPos m hO t y a : ℕ) = ((cfgM m hO).win 0).index t a * ((cfgM m hO).win 0).size a + y a := Window.rect_emb_val ((cfgM m hO).win 0) t y a
  exact h.trans (congrArg (fun z => z * S1x128x128.size a + (y a : ℕ)) (index_eq m hO t a))

/-- A visit's block is read off the image there. -/
theorem iblk_inPos (hO : Ok m) (c : Dev nD) (t : Fin grid0.N) (y : S1x128x128.Idx) :
    (iblk m hO c 0 t : FVec F S1x128x128 .f32) y = imgOf m c (inPos m hO t y) :=
  (show (iblk m hO c 0 t : FVec F S1x128x128 .f32) y = V m c main_arg0 (inPos m hO t y) from rfl).trans (congrFun (V_main_arg0 m c) _)

/-- A visit's block is the bin's image at the rows and the columns of its blocks. -/
theorem iblk_apply (hO : Ok m) (c : Dev nD) (t : Fin grid0.N) (r l : Fin 128) :
    (iblk m hO c 0 t : FVec F S1x128x128 .f32) (ix3 0 r l) = imgAt (imgOf m c) (t.val / 4)
      (128 * min (rowStart m c (grid0.coords t) + (grid0.coords t 2).val) 7 + r.val) (128 * min (colStart m c (grid0.coords t) + (grid0.coords t 1).val) 7 + l.val) := by
  have hN : t.val < 196 := t.isLt.trans_eq N_0
  have e0 : (inPos m hO t (ix3 0 r l) 0 : ℕ) = (BitVec.ofNat 32 (grid0.coords t 0).val).toNat * 1 + 0 := inPos0 m hO t (ix3 0 r l)
  have e1 : (inPos m hO t (ix3 0 r l) 1 : ℕ) = cc0_transform_0 k0_off1_inb numel1_S1x1 k0_off2_inb (tbl m) (grid0.coords t) 1 * 128 + r.val := inPos_val m hO t (ix3 0 r l) 1
  have e2 : (inPos m hO t (ix3 0 r l) 2 : ℕ) = cc0_transform_0 k0_off1_inb numel1_S1x1 k0_off2_inb (tbl m) (grid0.coords t) 2 * 128 + l.val := inPos_val m hO t (ix3 0 r l) 2
  rw [coord0, BitVec.toNat_ofNat] at e0
  rw [index1 m c] at e1
  rw [index2 m c] at e2
  have hr := r.isLt
  have hl := l.isLt
  rw [iblk_inPos m hO c t (ix3 0 r l)]
  unfold imgAt
  refine congrArg (imgOf m c) ?_
  generalize inPos m hO t (ix3 0 r l) = p at e0 e1 e2
  generalize rowStart m c (grid0.coords t) + (grid0.coords t 2).val = A at e1
  generalize colStart m c (grid0.coords t) + (grid0.coords t 1).val = B at e2
  funext a
  refine Fin.ext ?_
  match a with
  | ⟨0, _⟩ => show (p 0 : ℕ) = t.val / 4 % 49; omega
  | ⟨1, _⟩ => show (p 1 : ℕ) = (128 * min A 7 + r.val) % 1024; omega
  | ⟨2, _⟩ => show (p 2 : ℕ) = (128 * min B 7 + l.val) % 1024; omega

end Cert.KernelIdeal.Gen
-- ==== Proof.Bounds.lean ====
/-
  Bounds of bins over the extended reals, and the words they are converted to: the word of a bound keeps its order with
  the positions `0 … 1023`, a bin reaches over at most 129 positions, and where a count of words wraps around some bin
  of the same direction is empty.
-/
module

public import proofs.«01_k».proof.KernelIdeal
public import Idealize.ShloMosaic.Lib.Pointwise
public import Idealize.ShloMosaic.Lib.IdealHost

@[expose] public section

set_option maxRecDepth 16384

noncomputable section

namespace Cert.KernelIdeal.Gen

open Idealize.ShloMosaic

/-! ## The word of a bound -/

/-- The bound `y` brought into the range of the words. -/
def clampZ (y : EReal) : ℤ := Ideal.toIntClamped (-2147483648) 2147483647 y

/-- The word of a bound, read as a number, is the bound brought into range. -/
theorem toInt_fptosi (y : EReal) : (Ideal.fptosi 32 y).toInt = clampZ y := by
  have e : Ideal.fptosi 32 y = BitVec.ofInt 32 (clampZ y) := by
    unfold Ideal.fptosi clampZ; norm_num
  have hb : -2147483648 ≤ clampZ y ∧ clampZ y ≤ 2147483647 := by
    unfold clampZ
    induction y using EReal.rec with
    | bot => rw [Ideal.toIntClamped_bot]; omega
    | top => rw [Ideal.toIntClamped_top]; omega
    | coe r => rw [Ideal.toIntClamped_coe]; omega
  rw [e, BitVec.toInt_ofInt]
  exact Int.bmod_eq_of_le (by omega) (by omega)

/-- A whole number or an infinity. -/
def Whole (y : EReal) : Prop := y = ⊤ ∨ y = ⊥ ∨ ∃ n : ℤ, y = ((n : ℝ) : EReal)

/-- A whole bound in range. -/
theorem clampZ_coe (n : ℤ) : clampZ ((n : ℝ) : EReal) = max (-2147483648) (min 2147483647 n) := by
  unfold clampZ
  rw [Ideal.toIntClamped_coe]; simp
theorem clampZ_top : clampZ ⊤ = 2147483647 := rfl
theorem clampZ_bot : clampZ ⊥ = -2147483648 := rfl

/-- A whole bound and its word stand to a position of the array the same way. -/
theorem clampZ_le_iff {y : EReal} (hy : Whole y) (r : ℕ) (hr : r < 1024) : y ≤ ((r : ℝ) : EReal) ↔ clampZ y ≤ r := by
  rcases hy with rfl | rfl | ⟨n, rfl⟩
  · rw [clampZ_top]
    exact ⟨fun h => absurd h (not_le.mpr (EReal.coe_lt_top _)), fun h => by omega⟩
  · rw [clampZ_bot]
    exact ⟨fun _ => by omega, fun _ => bot_le⟩
  · rw [clampZ_coe, EReal.coe_le_coe_iff]
    rw [show ((n : ℝ) ≤ (r : ℝ)) ↔ n ≤ (r : ℤ) by exact_mod_cast Iff.rfl]
    omega
@[inherit_doc clampZ_le_iff]
theorem lt_clampZ_iff {y : EReal} (hy : Whole y) (r : ℕ) (hr : r < 1024) : ((r : ℝ) : EReal) < y ↔ (r : ℤ) < clampZ y := by
  rcases hy with rfl | rfl | ⟨n, rfl⟩
  · rw [clampZ_top]
    exact ⟨fun _ => by omega, fun _ => EReal.coe_lt_top _⟩
  · rw [clampZ_bot]
    exact ⟨fun h => absurd h not_lt_bot, fun h => by omega⟩
  · rw [clampZ_coe, EReal.coe_lt_coe_iff]
    rw [show ((r : ℝ) < (n : ℝ)) ↔ (r : ℤ) < n by exact_mod_cast Iff.rfl]
    omega

/-! ## The bounds of the seven bins of one direction -/

/-- The lower and upper bounds of seven bins that lie side by side along an interval: either all of them are the same
    infinity, or bin `k` goes from `a + (7 (k + 1) / 8 - 4) d` rounded down to `a + (7 (k + 1) / 8 - 3) d` rounded up, where
    `d` is at most 128. -/
def Spans (l u : Fin 7 → EReal) : Prop :=
  (∃ y : EReal, (y = ⊤ ∨ y = ⊥) ∧ ∀ k, l k = y ∧ u k = y)
  ∨ ∃ a d : ℝ, d ≤ 128 ∧ ∀ k : Fin 7, l k = ((⌊a + d * (7 * ((k.val : ℝ) + 1) / 8 - 4)⌋ : ℝ) : EReal)
      ∧ u k = ((⌈a + d * (7 * ((k.val : ℝ) + 1) / 8 - 3)⌉ : ℝ) : EReal)

theorem Spans.whole {l u : Fin 7 → EReal} (h : Spans l u) (k : Fin 7) : Whole (l k) ∧ Whole (u k) := by
  rcases h with ⟨y, hy, h⟩ | ⟨a, d, -, h⟩
  · rw [(h k).1, (h k).2]
    rcases hy with rfl | rfl
    · exact ⟨Or.inl rfl, Or.inl rfl⟩
    · exact ⟨Or.inr (Or.inl rfl), Or.inr (Or.inl rfl)⟩
  · rw [(h k).1, (h k).2]
    exact ⟨Or.inr (Or.inr ⟨_, rfl⟩), Or.inr (Or.inr ⟨_, rfl⟩)⟩

/-- A bin reaches over at most 129 positions. -/
theorem Spans.short {l u : Fin 7 → EReal} (h : Spans l u) (k : Fin 7) : clampZ (u k) - clampZ (l k) ≤ 129 := by
  rcases h with ⟨y, hy, h⟩ | ⟨a, d, hd, h⟩
  · rw [(h k).1, (h k).2]; omega
  · rw [(h k).1, (h k).2, clampZ_coe, clampZ_coe]
    set x := a + d * (7 * ((k.val : ℝ) + 1) / 8 - 4) with hx
    have e : a + d * (7 * ((k.val : ℝ) + 1) / 8 - 3) = x + d := by rw [hx]; ring
    rw [e]
    have h1 : (⌈x + d⌉ : ℤ) ≤ ⌊x⌋ + 129 := by
      rw [Int.ceil_le]; push_cast
      have := Int.lt_floor_add_one x
      linarith
    omega

/-- Either the difference of the two bounds brought into the array is a word in every bin, or it is in some bin that is
    empty. -/
theorem Spans.counts {l u : Fin 7 → EReal} (h : Spans l u) :
    (∀ k, -2147483648 ≤ min (clampZ (u k)) 1024 - max (clampZ (l k)) 0)
    ∨ ∃ k, -2147483648 ≤ min (clampZ (u k)) 1024 - max (clampZ (l k)) 0 ∧ clampZ (u k) ≤ clampZ (l k) := by
  rcases h with ⟨y, hy, h⟩ | ⟨a, d, hd, h⟩
  · left; intro k
    rw [(h k).1, (h k).2]
    rcases hy with rfl | rfl
    · rw [clampZ_top]; decide
    · rw [clampZ_bot]; decide
  · by_cases hn : ∀ k, -2147483648 ≤ min (clampZ (u k)) 1024 - max (clampZ (l k)) 0
    · exact Or.inl hn
    · right
      push Not at hn
      obtain ⟨k, hk⟩ := hn
      have hdneg : d ≤ -10 := by
        rw [(h k).1, (h k).2, clampZ_coe, clampZ_coe] at hk
        set x := a + d * (7 * ((k.val : ℝ) + 1) / 8 - 4) with hx
        have e : a + d * (7 * ((k.val : ℝ) + 1) / 8 - 3) = x + d := by rw [hx]; ring
        rw [e] at hk
        have h1 : (⌈x + d⌉ : ℤ) ≤ ⌊x⌋ - 20 := by omega
        rw [Int.ceil_le] at h1; push_cast at h1
        have := Int.floor_le x
        linarith
      have hem : ∀ k, clampZ (u k) ≤ clampZ (l k) := by
        intro k
        rw [(h k).1, (h k).2, clampZ_coe, clampZ_coe]
        set x := a + d * (7 * ((k.val : ℝ) + 1) / 8 - 4) with hx
        have e : a + d * (7 * ((k.val : ℝ) + 1) / 8 - 3) = x + d := by rw [hx]; ring
        rw [e]
        have h1 : (⌈x + d⌉ : ℤ) ≤ ⌊x⌋ := by
          rw [Int.ceil_le]
          have := Int.lt_floor_add_one x
          linarith
        omega
      rcases le_total 0 a with ha | ha
      · refine ⟨0, ?_, hem 0⟩
        have hu : 0 ≤ clampZ (u 0) := by
          rw [(h 0).2, clampZ_coe]
          have : (0 : ℤ) ≤ ⌈a + d * (7 * (((0 : Fin 7).val : ℝ) + 1) / 8 - 3)⌉ := by
            apply Int.ceil_nonneg; norm_num; nlinarith
          omega
        have hl : clampZ (l 0) ≤ 2147483647 := by rw [(h 0).1, clampZ_coe]; omega
        omega
      · refine ⟨6, ?_, hem 6⟩
        have hl : clampZ (l 6) ≤ 0 := by
          rw [(h 6).1, clampZ_coe]
          have : ⌊a + d * (7 * (((6 : Fin 7).val : ℝ) + 1) / 8 - 4)⌋ ≤ (0 : ℤ) := by
            rw [Int.floor_le_iff]; norm_num
            nlinarith
          omega
        have hu : -2147483648 ≤ clampZ (u 6) := by rw [(h 6).2, clampZ_coe]; omega
        omega

end Cert.KernelIdeal.Gen
-- ==== Proof.Sums.lean ====
/-
  A sum over the positions of a bin, taken in two blocks of 128 positions: the block the bin begins in and the next one,
  left out where the array has no next block.
-/
module

public import proofs.«01_k».proof.Proof.Bounds

@[expose] public section

noncomputable section

namespace Cert.KernelIdeal.Gen

variable {M : Type} [AddCommMonoid M]

/-- The sum of `g` over the positions of the bin `lo … hi - 1` in block `R + a`, where the bin begins in block `R`. -/
def blockSum (lo hi : ℤ) (R a : ℕ) (g : ℕ → M) : M :=
  ∑ r : Fin 128, if (lo ≤ ((128 * min (R + a) 7 + r.val : ℕ) : ℤ) ∧ ((128 * min (R + a) 7 + r.val : ℕ) : ℤ) < hi) ∧ (a = 0 ∨ R + a ≤ 7)
    then g (128 * min (R + a) 7 + r.val) else 0

/-- The sum of `g` over all the positions of the bin. -/
def binSum (lo hi : ℤ) (g : ℕ → M) : M := ∑ r : Fin 1024, if lo ≤ (r.val : ℤ) ∧ (r.val : ℤ) < hi then g r.val else 0

/-- A sum of terms that vanish outside two blocks is the sum over the two. -/
theorem sum_two_blocks (f : ℕ → M) (R : ℕ) (hR : R ≤ 7) (hf : ∀ r, r < 1024 → ¬ (128 * R ≤ r ∧ r < 128 * R + 256) → f r = 0) :
    (∑ r : Fin 128, f (128 * R + r.val)) + (∑ r : Fin 128, if R + 1 ≤ 7 then f (128 * (R + 1) + r.val) else 0) = ∑ r : Fin 1024, f r.val := by
  rw [Fin.sum_univ_eq_sum_range (fun r => f (128 * R + r)) 128, Fin.sum_univ_eq_sum_range (fun r => if R + 1 ≤ 7 then f (128 * (R + 1) + r) else 0) 128,
    Fin.sum_univ_eq_sum_range f 1024]
  have h0 : ∑ r ∈ Finset.range 128, f (128 * R + r) = ∑ r ∈ Finset.Ico (128 * R) (128 * R + 128), f r := by
    rw [Finset.sum_Ico_eq_sum_range]; simp
  by_cases h7 : R + 1 ≤ 7
  · have h1 : ∑ r ∈ Finset.range 128, (if R + 1 ≤ 7 then f (128 * (R + 1) + r) else 0) = ∑ r ∈ Finset.Ico (128 * R + 128) (128 * R + 256), f r := by
      rw [Finset.sum_Ico_eq_sum_range, show 128 * R + 256 - (128 * R + 128) = 128 by omega]
      exact Finset.sum_congr rfl fun r _ => by rw [if_pos h7]; rfl
    rw [h0, h1, Finset.sum_Ico_consecutive f (by omega) (by omega)]
    refine Finset.sum_subset (fun r hr => ?_) (fun r hr hn => hf r (Finset.mem_range.mp hr) (fun h => hn (Finset.mem_Ico.mpr h)))
    rw [Finset.mem_Ico] at hr; rw [Finset.mem_range]; omega
  · rw [h0, Finset.sum_eq_zero (s := Finset.range 128) (fun r _ => if_neg h7), add_zero]
    refine Finset.sum_subset (fun r hr => ?_) (fun r hr hn => hf r (Finset.mem_range.mp hr) (fun h => hn (Finset.mem_Ico.mpr ?_)))
    · rw [Finset.mem_Ico] at hr; rw [Finset.mem_range]; omega
    · have := Finset.mem_range.mp hr; omega

/-- A bin of at most 129 positions is summed in two blocks. -/
theorem blockSum_add (lo hi : ℤ) (h : hi - lo ≤ 129) (R : ℕ) (hR : (R : ℤ) = max 0 (min 7 (lo / 128))) (g : ℕ → M) :
    blockSum lo hi R 0 g + blockSum lo hi R 1 g = binSum lo hi g := by
  have hR7 : R ≤ 7 := by omega
  unfold binSum
  rw [← sum_two_blocks (fun r => if lo ≤ (r : ℤ) ∧ (r : ℤ) < hi then g r else 0) R hR7 (fun r hr hn => if_neg (by omega))]
  unfold blockSum
  congr 1
  · refine Finset.sum_congr rfl fun r _ => ?_
    rw [show min (R + 0) 7 = R by omega]
    simp
  · refine Finset.sum_congr rfl fun r _ => ?_
    by_cases h7 : R + 1 ≤ 7
    · rw [show min (R + 1) 7 = R + 1 by omega, if_pos h7]
      simp [h7]
    · rw [if_neg h7, if_neg (by omega)]

end Cert.KernelIdeal.Gen
-- ==== Proof.Masks.lean ====
/-
  The kernel's masked sums at an element: the block a bin begins in, the test of a position against a bin's bounds, and
  the two sums of the body as sums over the positions of one block.
-/
module

public import proofs.«01_k».proof.Proof.Words
public import proofs.«01_k».proof.Proof.Sums

@[expose] public section

set_option maxRecDepth 16384

noncomputable section

namespace Cert.KernelIdeal.Gen

open Idealize.ShloMosaic

/-! ## The block a bin begins in -/

/-- A word brought into `0 … 7`, as a number. -/
theorem clip_word (d : BitVec 32) : ((IntOp.minsi 7#32 (IntOp.maxsi 0#32 d)).toNat : ℤ) = max 0 (min 7 d.toInt) := by
  unfold IntOp.minsi IntOp.maxsi
  rw [BitVec.slt_eq_decide, BitVec.slt_eq_decide]
  have e7 : (7#32).toInt = 7 := by decide
  have e0 : (0#32).toInt = 0 := by decide
  rw [e0]
  by_cases hx : d.toInt < 0
  · simp [hx]; omega
  · by_cases h7 : 7 < d.toInt
    · simp [hx, h7]; omega
    · have := BitVec.toInt_eq_toNat_cond d
      simp [hx, h7]
      split at this <;> omega

/-- The sign of a word, as a word. -/
def signOf (x : BitVec 32) : BitVec 32 := if x = 0 then 0 else if x.msb then -1 else 1

/-- The division by 128 as the host writes it rounds down. -/
theorem floor_word (x : BitVec 32) : (Scalar.select
          (IntOp.andi (IntOp.cmpi CmpIPredicate.ne (signOf x) (signOf 128#32))
            (IntOp.cmpi CmpIPredicate.ne (IntOp.remsi ArithUnit.host x 128#32) 0#32))
          (IntOp.subi (IntOp.divsi ArithUnit.host x 128#32) 1#32)
          (IntOp.divsi ArithUnit.host x 128#32)).toInt = x.toInt / 128 := by
  have hc : ¬ IntOp.SDivCorner x 128#32 := by
    rintro (h | ⟨-, h⟩) <;> exact absurd h (by decide)
  have ed : IntOp.divsi ArithUnit.host x 128#32 = x.sdiv 128#32 := if_neg hc
  have er : IntOp.remsi ArithUnit.host x 128#32 = x.srem 128#32 := if_neg hc
  rw [ed, er]
  have e128 : (128#32).toInt = 128 := by decide
  have hd : (x.sdiv 128#32).toInt = x.toInt.tdiv 128 := by
    rw [BitVec.toInt_sdiv_of_ne_or_ne _ _ (Or.inr (by decide)), e128]
  have hr : (x.srem 128#32).toInt = x.toInt.tmod 128 := by rw [BitVec.toInt_srem, e128]
  have hb := BitVec.toInt_lt (x := x)
  have hb' := BitVec.le_toInt (x := x)
  have hq : x.toInt.tdiv 128 = x.toInt / 128 + if 0 ≤ x.toInt ∨ (128 : ℤ) ∣ x.toInt then 0 else 1 := by
    rw [Int.tdiv_eq_ediv]; rfl
  by_cases h0 : 0 ≤ x.toInt
  · have hm : x.msb = false := by rw [BitVec.msb_eq_toInt]; simpa using h0
    have : Scalar.select
          (IntOp.andi (IntOp.cmpi CmpIPredicate.ne (signOf x) (signOf 128#32))
            (IntOp.cmpi CmpIPredicate.ne (x.srem 128#32) 0#32))
          (IntOp.subi (x.sdiv 128#32) 1#32) (x.sdiv 128#32) = x.sdiv 128#32 := by
      by_cases hx : x = 0
      · subst hx; decide
      · have e : IntOp.cmpi CmpIPredicate.ne (signOf x) (signOf 128#32) = 0#1 := by
          rw [show signOf x = 1#32 by unfold signOf; rw [if_neg hx, hm]; rfl]; decide
        rw [e]
        have e2 : ∀ b : BitVec 1, IntOp.andi 0#1 b = 0#1 := by decide
        rw [e2]; rfl
    rw [this, hd, hq, if_pos (Or.inl h0), add_zero]
  · have hm : x.msb = true := by rw [BitVec.msb_eq_toInt]; simpa using h0
    have hx : x ≠ 0 := by rintro rfl; exact h0 (by decide)
    have e : IntOp.cmpi CmpIPredicate.ne (signOf x) (signOf 128#32) = 1#1 := by
      rw [show signOf x = -1 by unfold signOf; rw [if_neg hx, hm]; rfl]; decide
    have e2 : ∀ b : BitVec 1, IntOp.andi 1#1 b = b := by decide
    rw [e, e2]
    have hz : x.srem 128#32 = 0#32 ↔ (128 : ℤ) ∣ x.toInt := by
      rw [← BitVec.toInt_inj, hr]
      exact (Int.dvd_iff_tmod_eq_zero).symm
    by_cases hdv : (128 : ℤ) ∣ x.toInt
    · have : IntOp.cmpi CmpIPredicate.ne (x.srem 128#32) 0#32 = 0#1 := by rw [hz.mpr hdv]; decide
      rw [this]
      show (x.sdiv 128#32).toInt = _
      rw [hd, hq, if_pos (Or.inr hdv), add_zero]
    · have : IntOp.cmpi CmpIPredicate.ne (x.srem 128#32) 0#32 = 1#1 := by
        show BitVec.ofBool (x.srem 128#32 != 0#32) = 1#1
        have hne : x.srem 128#32 ≠ 0#32 := fun h => hdv (hz.mp h)
        simp [bne_iff_ne.mpr hne]
      rw [this]
      show (x.sdiv 128#32 - 1#32).toInt = _
      rw [BitVec.toInt_sub, hd, hq, if_neg (by tauto)]
      have e1 : (1#32).toInt = 1 := by decide
      rw [e1, show x.toInt / 128 + 1 - 1 = x.toInt / 128 by omega]
      exact Int.bmod_eq_of_le (by omega) (by omega)

/-- The block a bin begins in, from the bin's first position. -/
theorem block_toNat (v : IContents S7 32) (q : Fin 7) : ((clip7 (block v) (ix1 q)).toNat : ℤ) = max 0 (min 7 ((v (ix1 q)).toInt / 128)) := by
  unfold clip7 block
  pointwise
  exact (clip_word _).trans (congrArg (fun z : ℤ => max 0 (min 7 z)) (floor_word _))

/-! ## The test of a position -/

/-- The mask of the body's two sums, at one position. -/
theorem mask_select (R a r : ℕ) (hR : R ≤ 7) (ha : a < 2) (hr : r < 128) (B lo hi w : BitVec 32) (hB : B.toNat = min (R + a) 7) (hw : w.toNat = R) (e : EReal) :
    Scalar.select
        (IntOp.andi
          (IntOp.andi (IntOp.cmpi CmpIPredicate.sge (IntOp.addi (Scalar.muli B 128#32) (BitVec.ofNat 32 r)) lo)
            (IntOp.cmpi CmpIPredicate.slt (IntOp.addi (Scalar.muli B 128#32) (BitVec.ofNat 32 r)) hi))
          (Scalar.ori (Scalar.cmpi CmpIPredicate.eq (BitVec.ofNat 32 a) 0#32) (Scalar.cmpi CmpIPredicate.sle (Scalar.addi w (BitVec.ofNat 32 a)) 7#32)))
        e 0
      = if (lo.toInt ≤ ((128 * min (R + a) 7 + r : ℕ) : ℤ) ∧ ((128 * min (R + a) 7 + r : ℕ) : ℤ) < hi.toInt) ∧ (a = 0 ∨ R + a ≤ 7) then e else 0 := by
  have hp : (IntOp.addi (Scalar.muli B 128#32) (BitVec.ofNat 32 r)).toInt = ((128 * min (R + a) 7 + r : ℕ) : ℤ) := by
    have hn : (IntOp.addi (Scalar.muli B 128#32) (BitVec.ofNat 32 r)).toNat = 128 * min (R + a) 7 + r := by
      show (B * 128#32 + BitVec.ofNat 32 r).toNat = _
      rw [BitVec.toNat_add, BitVec.toNat_mul, hB, BitVec.toNat_ofNat, BitVec.toNat_ofNat]
      omega
    rw [BitVec.toInt_eq_toNat_cond, hn, if_pos (by omega)]
  generalize IntOp.addi (Scalar.muli B 128#32) (BitVec.ofNat 32 r) = p at hp
  have h1 : IntOp.cmpi CmpIPredicate.sge p lo = BitVec.ofBool (decide (lo.toInt ≤ p.toInt)) := rfl
  have h2 : IntOp.cmpi CmpIPredicate.slt p hi = BitVec.ofBool (decide (p.toInt < hi.toInt)) := rfl
  have h3 : Scalar.ori (Scalar.cmpi CmpIPredicate.eq (BitVec.ofNat 32 a) 0#32) (Scalar.cmpi CmpIPredicate.sle (Scalar.addi w (BitVec.ofNat 32 a)) 7#32)
      = BitVec.ofBool (decide (a = 0 ∨ R + a ≤ 7)) := by
    obtain rfl : w = BitVec.ofNat 32 R := by rw [← hw]; simp
    interval_cases R <;> interval_cases a <;> decide
  rw [h1, h2, h3, hp]
  by_cases c1 : lo.toInt ≤ ((128 * min (R + a) 7 + r : ℕ) : ℤ) <;> by_cases c2 : ((128 * min (R + a) 7 + r : ℕ) : ℤ) < hi.toInt <;>
    by_cases c3 : a = 0 ∨ R + a ≤ 7 <;>
    simp only [c1, c2, c3, decide_true, decide_false, and_self, and_true, and_false, false_and, true_and, if_true, if_false] <;> rfl

/-! ## The body's two sums -/

/-- The column sums of a visit at one column: the sum over the positions of its row block. -/
theorem pay3_apply (R a : ℕ) (hR : R ≤ 7) (ha : a < 2) (B lo hi w : BitVec 32) (hB : B.toNat = min (R + a) 7) (hw : w.toNat = R)
    (x : Vec Ideal S1x128x128 .f32) (l : Fin 128) (g : ℕ → EReal) (hg : ∀ r : Fin 128, x (ix3 0 r l) = g (128 * min (R + a) 7 + r.val)) :
    k0_pay3 (F := Ideal) (BitVec.ofNat 32 a) B lo hi w x (ix2 0 l) = blockSum lo.toInt hi.toInt R a g := by
  unfold k0_pay3
  pointwise
  unfold blockSum
  refine Finset.sum_congr rfl fun r _ => ?_
  rw [mask_select R a r.val hR ha r.isLt B lo hi w hB hw, hg r]

/-- The total of a visit: the sum over the positions of its column block. -/
theorem pay1_apply (R a : ℕ) (hR : R ≤ 7) (ha : a < 2) (B lo hi w : BitVec 32) (hB : B.toNat = min (R + a) 7) (hw : w.toNat = R)
    (v : FVec Ideal S1x128 .f32) (g : ℕ → EReal) (hg : ∀ l : Fin 128, v (ix2 0 l) = g (128 * min (R + a) 7 + l.val)) (j : S1x8x128.Idx) :
    k0_pay1 (F := Ideal) (BitVec.ofNat 32 a) hi v (k0_pay6 B) (k0_pay7 (F := Ideal) B lo) w j = blockSum lo.toInt hi.toInt R a g := by
  unfold k0_pay1 k0_pay7 k0_pay6
  pointwise
  unfold blockSum
  simp only [Finset.univ_unique, Finset.sum_singleton]
  refine Finset.sum_congr rfl fun r _ => ?_
  rw [mask_select R a r.val hR ha r.isLt B lo hi w hB hw, hg r]

end Cert.KernelIdeal.Gen
-- ==== Proof.Visits.lean ====
/-
  The four visits of a bin add up to the sum of its image over its rows and columns, where the bin reaches over at most
  129 rows and 129 columns.
-/
module

public import proofs.«01_k».proof.Proof.Output
public import proofs.«01_k».proof.Proof.Masks

@[expose] public section

set_option maxRecDepth 16384

noncomputable section

namespace Cert.KernelIdeal.Gen

open Idealize.ShloMosaic Idealize.ShloMosaic.TcCoe Idealize.ShloMosaic.Tactic
open Idealize.SL Idealize.SL.Sem
open scoped Idealize.SL.BI

variable (m : (ℓ : Loc nD τ sig) → Buf (Elt Ideal) ℓ)

/-- The sum of the image of a bin over the rows of the bin, at one column. -/
def colSum (c : Dev nD) (i : grid0.Coords) (k s : ℕ) : EReal :=
  binSum (rowLo (regOf m c) (ix1 (binR i))).toInt (rowHi (regOf m c) (ix1 (binR i))).toInt (fun r => imgAt (F := Ideal) (imgOf m c) k r s)

/-- The column sums of one visit. -/
theorem colpart_apply (hO : Ok m) (c : Dev nD) (t : Fin grid0.N) (l : Fin 128) :
    colpart (c := c) (grid0.coords t) (tbl m 0) (iblk m hO c 0 t) (ix2 0 l)
      = blockSum (rowLo (regOf m c) (ix1 (binR (grid0.coords t)))).toInt (rowHi (regOf m c) (ix1 (binR (grid0.coords t)))).toInt
          (rowStart m c (grid0.coords t)) (grid0.coords t 2).val
          (fun r => imgAt (F := Ideal) (imgOf m c) (t.val / 4) r (128 * min (colStart m c (grid0.coords t) + (grid0.coords t 1).val) 7 + l.val)) := by
  unfold colpart
  rw [word1, word3, word4]
  exact pay3_apply (rowStart m c (grid0.coords t)) _ (clip7_le _ _) (grid0.coords t 2).isLt _ _ _ _ (rowBlk_toNat m c (grid0.coords t)) rfl _ l _
    (fun r => iblk_apply m hO c t r l)

/-- The total of one visit whose two row blocks' column sums are the bin's. -/
theorem part_apply (c : Dev nD) (i : grid0.Coords) (x : Vec Ideal S1x128x128 .f32) (v : Vec Ideal S1x128 .f32) (g : ℕ → EReal)
    (hg : ∀ l : Fin 128, (v (ix2 0 l) : EReal) + colpart (c := c) i (tbl m 0) x (ix2 0 l) = g (128 * min (colStart m c i + (i 1).val) 7 + l.val)) (j : S1x8x128.Idx) :
    part (c := c) i (tbl m 0) x v j
      = blockSum (colLo (regOf m c) (ix1 (binC i))).toInt (colHi (regOf m c) (ix1 (binC i))).toInt (colStart m c i) (i 1).val g := by
  unfold part
  rw [word2, word5, word6]
  exact pay1_apply (colStart m c i) _ (clip7_le _ _) (i 1).isLt _ _ _ _ (colBlk_toNat m c i) rfl _ g (fun l => hg l) j

/-- The first block of a bin along each direction, from its first position. -/
theorem rowStart_eq (c : Dev nD) (i : grid0.Coords) : (rowStart m c i : ℤ) = max 0 (min 7 ((rowLo (regOf m c) (ix1 (binR i))).toInt / 128)) := block_toNat _ _
@[inherit_doc rowStart_eq] theorem colStart_eq (c : Dev nD) (i : grid0.Coords) : (colStart m c i : ℤ) = max 0 (min 7 ((colLo (regOf m c) (ix1 (binC i))).toInt / 128)) := block_toNat _ _

/-- A point's number and its coordinates. -/
theorem pt_val (n : ℕ) (h : n < 196) : (pt n).val = n := Nat.mod_eq_of_lt h

/-- Points of the same bin read the same words. -/
theorem binR_pt (n : ℕ) (h : n < 196) : binR (grid0.coords (pt n)) = ⟨n / 28, by omega⟩ := by
  refine Fin.ext ?_
  show (grid0.coords (pt n) 0).val / 7 = n / 28
  rw [coord0, pt_val n h]; omega
@[inherit_doc binR_pt] theorem binC_pt (n : ℕ) (h : n < 196) : binC (grid0.coords (pt n)) = ⟨n / 4 % 7, by omega⟩ := by
  refine Fin.ext ?_
  show (grid0.coords (pt n) 0).val % 7 = n / 4 % 7
  rw [coord0, pt_val n h]; omega

/-- Two visits of the two row blocks of a bin, at the same column block: their column sums add to the bin's. -/
theorem cols_add (hO : Ok m) (c : Dev nD) (n : ℕ) (hn : n + 1 < 196) (h2 : n % 2 = 0)
    (hs : (rowHi (regOf m c) (ix1 (binR (grid0.coords (pt (n + 1)))))).toInt - (rowLo (regOf m c) (ix1 (binR (grid0.coords (pt (n + 1)))))).toInt ≤ 129) (l : Fin 128) :
    (colAt m hO c n (ix2 0 l) : EReal) + colpart (c := c) (grid0.coords (pt (n + 1))) (tbl m 0) (iblk m hO c 0 (pt (n + 1))) (ix2 0 l)
      = colSum m c (grid0.coords (pt (n + 1))) (n / 4) (128 * min (colStart m c (grid0.coords (pt (n + 1))) + (grid0.coords (pt (n + 1)) 1).val) 7 + l.val) := by
  have eR : binR (grid0.coords (pt n)) = binR (grid0.coords (pt (n + 1))) := by
    rw [binR_pt n (by omega), binR_pt (n + 1) hn]; refine Fin.ext ?_; show n / 28 = (n + 1) / 28; omega
  have eC : binC (grid0.coords (pt n)) = binC (grid0.coords (pt (n + 1))) := by
    rw [binC_pt n (by omega), binC_pt (n + 1) hn]; refine Fin.ext ?_; show n / 4 % 7 = (n + 1) / 4 % 7; omega
  have v0 := pt_val n (by omega)
  have v1 := pt_val (n + 1) hn
  have c1 : (grid0.coords (pt n) 1).val = (grid0.coords (pt (n + 1)) 1).val := by rw [coord1, coord1, v0, v1]; omega
  have c2 : (grid0.coords (pt n) 2).val = 0 := by rw [coord2, v0]; omega
  have c2' : (grid0.coords (pt (n + 1)) 2).val = 1 := by rw [coord2, v1]; omega
  have eS : rowStart m c (grid0.coords (pt n)) = rowStart m c (grid0.coords (pt (n + 1))) := by unfold rowStart; rw [eR]
  have eT : colStart m c (grid0.coords (pt n)) = colStart m c (grid0.coords (pt (n + 1))) := by unfold colStart; rw [eC]
  unfold colAt
  rw [colpart_apply, colpart_apply, eR, eS, eT, c1, c2, c2', v0, v1, show (n + 1) / 4 = n / 4 by omega]
  exact blockSum_add _ _ hs _ (rowStart_eq m c _) _

/-- The last visit of bin `k` leaves the sum of the bin. -/
theorem lastAt_apply (hO : Ok m) (c : Dev nD) (k : Fin 49) (j : S1x8x128.Idx)
    (hr : ∀ q : Fin 7, (rowHi (regOf m c) (ix1 q)).toInt - (rowLo (regOf m c) (ix1 q)).toInt ≤ 129)
    (hc : ∀ q : Fin 7, (colHi (regOf m c) (ix1 q)).toInt - (colLo (regOf m c) (ix1 q)).toInt ≤ 129) :
    lastAt m hO c k.val j = binSum (colLo (regOf m c) (ix1 ⟨k.val % 7, by omega⟩)).toInt (colHi (regOf m c) (ix1 ⟨k.val % 7, by omega⟩)).toInt (fun s =>
      binSum (rowLo (regOf m c) (ix1 ⟨k.val / 7, by omega⟩)).toInt (rowHi (regOf m c) (ix1 ⟨k.val / 7, by omega⟩)).toInt (fun r =>
        imgAt (F := Ideal) (imgOf m c) k.val r s)) := by
  have hk := k.isLt
  have eR1 : binR (grid0.coords (pt (4 * k.val + 1))) = ⟨k.val / 7, by omega⟩ := by
    rw [binR_pt _ (by omega)]; refine Fin.ext ?_; show (4 * k.val + 1) / 28 = k.val / 7; omega
  have eR3 : binR (grid0.coords (pt (4 * k.val + 3))) = ⟨k.val / 7, by omega⟩ := by
    rw [binR_pt _ (by omega)]; refine Fin.ext ?_; show (4 * k.val + 3) / 28 = k.val / 7; omega
  have eC1 : binC (grid0.coords (pt (4 * k.val + 1))) = ⟨k.val % 7, by omega⟩ := by
    rw [binC_pt _ (by omega)]; refine Fin.ext ?_; show (4 * k.val + 1) / 4 % 7 = k.val % 7; omega
  have eC3 : binC (grid0.coords (pt (4 * k.val + 3))) = ⟨k.val % 7, by omega⟩ := by
    rw [binC_pt _ (by omega)]; refine Fin.ext ?_; show (4 * k.val + 3) / 4 % 7 = k.val % 7; omega
  have b1 : (grid0.coords (pt (4 * k.val + 1)) 1).val = 0 := by rw [coord1, pt_val _ (by omega)]; omega
  have b3 : (grid0.coords (pt (4 * k.val + 3)) 1).val = 1 := by rw [coord1, pt_val _ (by omega)]; omega
  have f1 : (firstAt m hO c k.val j : EReal) = _ :=
    part_apply m c (grid0.coords (pt (4 * k.val + 1))) _ _ _ (fun l => cols_add m hO c (4 * k.val) (by omega) (by omega) (hr _) l) j
  have f3 : part (c := c) (grid0.coords (pt (4 * k.val + 3))) (tbl m 0) (iblk m hO c 0 (pt (4 * k.val + 3))) (colAt m hO c (4 * k.val + 2)) j = _ :=
    part_apply m c (grid0.coords (pt (4 * k.val + 3))) _ _ _ (fun l => cols_add m hO c (4 * k.val + 2) (by omega) (by omega) (hr _) l) j
  have e : lastAt m hO c k.val j = (firstAt m hO c k.val j : EReal)
      + part (c := c) (grid0.coords (pt (4 * k.val + 3))) (tbl m 0) (iblk m hO c 0 (pt (4 * k.val + 3))) (colAt m hO c (4 * k.val + 2)) j := by
    unfold lastAt accum
    rw [shapeCast_self]
    rfl
  have s1 : colStart m c (grid0.coords (pt (4 * k.val + 1))) = colStart m c (grid0.coords (pt (4 * k.val + 3))) := by unfold colStart; rw [eC1, eC3]
  have g1 : colSum m c (grid0.coords (pt (4 * k.val + 1))) (4 * k.val / 4) = fun s =>
      binSum (rowLo (regOf m c) (ix1 ⟨k.val / 7, by omega⟩)).toInt (rowHi (regOf m c) (ix1 ⟨k.val / 7, by omega⟩)).toInt (fun r => imgAt (F := Ideal) (imgOf m c) k.val r s) := by
    funext s; unfold colSum; rw [eR1, show 4 * k.val / 4 = k.val by omega]
  have g3 : colSum m c (grid0.coords (pt (4 * k.val + 3))) ((4 * k.val + 2) / 4) = fun s =>
      binSum (rowLo (regOf m c) (ix1 ⟨k.val / 7, by omega⟩)).toInt (rowHi (regOf m c) (ix1 ⟨k.val / 7, by omega⟩)).toInt (fun r => imgAt (F := Ideal) (imgOf m c) k.val r s) := by
    funext s; unfold colSum; rw [eR3, show (4 * k.val + 2) / 4 = k.val by omega]
  have hS := colStart_eq m c (grid0.coords (pt (4 * k.val + 3)))
  rw [e, f1, f3, g1, g3, b1, b3, s1, eC1, eC3]
  rw [eC3] at hS
  exact blockSum_add _ _ (hc _) _ hS _

end Cert.KernelIdeal.Gen
-- ==== Proof.Spans.lean ====
/-
  The bounds the host computes lie side by side along the region: where the region's length in a direction is at most
  7/8, each bin of that direction spans at most 128 positions.
-/
module

public import proofs.«01_k».proof.Proof.Table
public import proofs.«01_k».proof.Proof.Bounds

@[expose] public section

set_option maxRecDepth 16384

noncomputable section

namespace Cert.KernelIdeal.Gen

open Idealize.ShloMosaic

/-! ## The constants -/

theorem const_two : Ideal.ofBits .f32 0x40000000#32 = ((2 : ℝ) : EReal) := by simp [Ideal.ofBits, Ideal.ieee, -EReal.coe_mul]; norm_num
theorem const_seven : Ideal.ofBits .f32 0x40E00000#32 = ((7 : ℝ) : EReal) := by simp [Ideal.ofBits, Ideal.ieee, -EReal.coe_mul]; norm_num
theorem const_eight : Ideal.ofBits .f32 0x41000000#32 = ((8 : ℝ) : EReal) := by simp [Ideal.ofBits, Ideal.ieee, -EReal.coe_mul]; norm_num
theorem const_1024 : Ideal.ofBits .f32 0x44800000#32 = ((1024 : ℝ) : EReal) := by simp [Ideal.ofBits, Ideal.ieee, -EReal.coe_mul]; norm_num
theorem const_seven_eighths : Ideal.ofBits .f32 0x3F600000#32 = ((7 / 8 : ℝ) : EReal) := by simp [Ideal.ofBits, Ideal.ieee, -EReal.coe_mul]; norm_num
theorem const_index (k : Fin 7) : FloatOps.sitofp (F := Ideal) FTy.f32 (BitVec.ofNat 32 (1 + k.val)) = (((k.val : ℝ) + 1 : ℝ) : EReal) := by
  have e : (BitVec.ofNat 32 (1 + k.val)).toInt = (k.val : ℤ) + 1 := by revert k; decide
  show (((BitVec.ofNat 32 (1 + k.val)).toInt : ℝ) : EReal) = _
  rw [e]; push_cast; rfl

/-! ## A bin's middle less and plus half its length -/

/-- The exact position a bin begins at, from the middle `i` and the length `h` of the region and the bin's part `s` of
    the way along it. -/
def beginsAt (i h : EReal) (s : ℝ) : EReal :=
  ((i - h * ((1 / 2 : ℝ) : EReal)) * (1 - (s : EReal)) + (i + h * ((1 / 2 : ℝ) : EReal)) * (s : EReal) - h * ((1 / 7 : ℝ) : EReal) * ((1 / 2 : ℝ) : EReal)) * ((1024 : ℝ) : EReal)
/-- The exact position it ends at. -/
def endsBefore (i h : EReal) (s : ℝ) : EReal :=
  ((i - h * ((1 / 2 : ℝ) : EReal)) * (1 - (s : EReal)) + (i + h * ((1 / 2 : ℝ) : EReal)) * (s : EReal) + h * ((1 / 7 : ℝ) : EReal) * ((1 / 2 : ℝ) : EReal)) * ((1024 : ℝ) : EReal)

/-- How far along the region bin `k` has its middle. -/
def along (k : Fin 7) : ℝ := ((k.val : ℝ) + 1) * (1 / 8)

theorem lowBins_apply (i h : FContents Ideal S_ .f32) (k : Fin 7) :
    lowBins (F := Ideal) i h (ix1 k) = Ideal.liftRound Int.floor (beginsAt (i Idealize.ShloMosaic.ix0) (h Idealize.ShloMosaic.ix0) (along k)) := by
  unfold lowBins centres halfBin
  pointwise
  rw [dif_pos (show 1 + k.val < 8 by omega), const_index, const_two, const_seven, const_eight, const_1024,
    Ideal.div_coe (by norm_num), Ideal.div_coe (by norm_num), Ideal.div_coe (by norm_num), Ideal.div_coe (by norm_num), ← EReal.coe_mul]
  rfl
theorem highBins_apply (i h : FContents Ideal S_ .f32) (k : Fin 7) :
    highBins (F := Ideal) i h (ix1 k) = Ideal.liftRound Int.ceil (endsBefore (i Idealize.ShloMosaic.ix0) (h Idealize.ShloMosaic.ix0) (along k)) := by
  unfold highBins centres halfBin
  pointwise
  rw [dif_pos (show 1 + k.val < 8 by omega), const_index, const_two, const_seven, const_eight, const_1024,
    Ideal.div_coe (by norm_num), Ideal.div_coe (by norm_num), Ideal.div_coe (by norm_num), Ideal.div_coe (by norm_num), ← EReal.coe_mul]
  rfl

theorem along_pos (k : Fin 7) : 0 < along k := by unfold along; positivity
theorem along_lt (k : Fin 7) : 0 < 1 - along k := by
  have : (k.val : ℝ) ≤ 6 := by exact_mod_cast (show k.val ≤ 6 by omega)
  unfold along; linarith

/-- For a region of a length of minus infinity a bin begins at minus infinity. -/
theorem ends_bot (i : EReal) (s : ℝ) (h0 : 0 < s) (h1 : 0 < 1 - s) : beginsAt i ⊥ s = ⊥ ∧ endsBefore i ⊥ s = ⊥ := by
  have e1 : (1 - (s : EReal)) = ((1 - s : ℝ) : EReal) := by rw [EReal.coe_sub, EReal.coe_one]
  unfold beginsAt endsBefore
  rw [e1, EReal.bot_mul_coe_of_pos (by norm_num : (0 : ℝ) < 1 / 2), EReal.bot_mul_coe_of_pos (by norm_num : (0 : ℝ) < 1 / 7),
    EReal.bot_mul_coe_of_pos (by norm_num : (0 : ℝ) < 1 / 2), EReal.add_bot, EReal.bot_mul_coe_of_pos h0, EReal.add_bot, EReal.add_bot,
    sub_eq_add_neg, EReal.bot_add]
  exact ⟨EReal.bot_mul_coe_of_pos (by norm_num), EReal.bot_mul_coe_of_pos (by norm_num)⟩

/-- For a region about an infinite middle a bin begins and ends there. -/
theorem ends_mid_bot (h s : ℝ) (h0 : 0 < s) (h1 : 0 < 1 - s) : beginsAt ⊥ h s = ⊥ ∧ endsBefore ⊥ h s = ⊥ := by
  have e1 : (1 - (s : EReal)) = ((1 - s : ℝ) : EReal) := by rw [EReal.coe_sub, EReal.coe_one]
  unfold beginsAt endsBefore
  rw [e1, EReal.bot_add, sub_eq_add_neg, sub_eq_add_neg, EReal.bot_add, EReal.bot_mul_coe_of_pos h1, EReal.bot_add, EReal.bot_add, EReal.bot_add]
  exact ⟨EReal.bot_mul_coe_of_pos (by norm_num), EReal.bot_mul_coe_of_pos (by norm_num)⟩
@[inherit_doc ends_mid_bot]
theorem ends_mid_top (h s : ℝ) (h0 : 0 < s) (h1 : 0 < 1 - s) : beginsAt ⊤ h s = ⊤ ∧ endsBefore ⊤ h s = ⊤ := by
  have e1 : (1 - (s : EReal)) = ((1 - s : ℝ) : EReal) := by rw [EReal.coe_sub, EReal.coe_one]
  unfold beginsAt endsBefore
  simp only [e1, ← EReal.coe_mul, EReal.top_sub_coe, EReal.top_add_coe, EReal.top_mul_coe_of_pos h1, EReal.top_mul_coe_of_pos h0, EReal.top_add_top]
  exact ⟨EReal.top_mul_coe_of_pos (by norm_num), EReal.top_mul_coe_of_pos (by norm_num)⟩

/-- For a finite region a bin begins and ends half a seventh of the length about its middle. -/
theorem ends_coe (i h s : ℝ) : beginsAt i h s = ((((i - h * (1 / 2)) * (1 - s) + (i + h * (1 / 2)) * s - h * (1 / 7) * (1 / 2)) * 1024 : ℝ) : EReal)
    ∧ endsBefore i h s = ((((i - h * (1 / 2)) * (1 - s) + (i + h * (1 / 2)) * s + h * (1 / 7) * (1 / 2)) * 1024 : ℝ) : EReal) := by
  unfold beginsAt endsBefore
  constructor
  · push_cast; rfl
  · push_cast; rfl

/-- The bins of a direction in which the region is at most 7/8 long lie side by side. -/
theorem spans_bins (i h : FContents Ideal S_ .f32) (hh : h Idealize.ShloMosaic.ix0 ≤ ((7 / 8 : ℝ) : EReal)) :
    Spans (fun k => lowBins (F := Ideal) i h (ix1 k)) (fun k => highBins (F := Ideal) i h (ix1 k)) := by
  simp only [lowBins_apply, highBins_apply]
  generalize h Idealize.ShloMosaic.ix0 = h' at hh
  generalize i Idealize.ShloMosaic.ix0 = i'
  induction h' using EReal.rec with
  | bot => exact Or.inl ⟨⊥, Or.inr rfl, fun k => by beta_reduce; rw [(ends_bot i' _ (along_pos k) (along_lt k)).1, (ends_bot i' _ (along_pos k) (along_lt k)).2]; exact ⟨rfl, rfl⟩⟩
  | top => exact absurd hh (not_le.mpr (EReal.coe_lt_top _))
  | coe h =>
    rw [EReal.coe_le_coe_iff] at hh
    induction i' using EReal.rec with
    | bot => exact Or.inl ⟨⊥, Or.inr rfl, fun k => by beta_reduce; rw [(ends_mid_bot h _ (along_pos k) (along_lt k)).1, (ends_mid_bot h _ (along_pos k) (along_lt k)).2]; exact ⟨rfl, rfl⟩⟩
    | top => exact Or.inl ⟨⊤, Or.inl rfl, fun k => by beta_reduce; rw [(ends_mid_top h _ (along_pos k) (along_lt k)).1, (ends_mid_top h _ (along_pos k) (along_lt k)).2]; exact ⟨rfl, rfl⟩⟩
    | coe i =>
      refine Or.inr ⟨1024 * i, 1024 * h / 7, by linarith, fun k => ?_⟩
      beta_reduce
      rw [(ends_coe i h _).1, (ends_coe i h _).2, Ideal.liftRound_coe, Ideal.liftRound_coe]
      unfold along
      constructor
      · congr 4; ring
      · congr 4; ring

end Cert.KernelIdeal.Gen
-- ==== Proof.Equal.lean ====
/-
  The kernel's result is the reference's, for a region at most 7/8 high and 7/8 wide.

  The sums of the bins are the same. So are the counts, but where the kernel's difference of two bounds wraps around; some
  bin of that direction is then empty on both sides, its sum 0 and its count 0, and both means are the same infinity.
-/
module

public import proofs.«01_k».proof.Proof.Reference
public import proofs.«01_k».proof.Proof.Visits
public import proofs.«01_k».proof.Proof.Spans

@[expose] public section

set_option maxRecDepth 16384

noncomputable section

namespace Cert.KernelIdeal.Gen

open Idealize.ShloMosaic Idealize.ShloMosaic.TcCoe
open Cert.ReferenceIdeal.Value (masks positions perPosition sums sizes)

/-! ## The number of positions of a bin -/

/-- The number of positions of a bin is the difference of its bounds brought into the array, or 0 where that is negative. -/
theorem binSum_one (lo hi : ℤ) : binSum lo hi (fun _ => (1 : EReal)) = (((max 0 (min hi 1024 - max lo 0) : ℤ) : ℝ) : EReal) := by
  unfold binSum
  rw [Fin.sum_univ_eq_sum_range (fun r => if lo ≤ (r : ℤ) ∧ (r : ℤ) < hi then (1 : EReal) else 0) 1024, Finset.sum_boole]
  have e : (Finset.range 1024).filter (fun r : ℕ => lo ≤ (r : ℤ) ∧ (r : ℤ) < hi) = Finset.Ico (max lo 0).toNat (min hi 1024).toNat := by
    ext r
    rw [Finset.mem_filter, Finset.mem_range, Finset.mem_Ico]
    omega
  rw [e, Nat.card_Ico]
  have e2 : ((((min hi 1024).toNat - (max lo 0).toNat : ℕ) : ℤ)) = max 0 (min hi 1024 - max lo 0) := by omega
  rw [← e2]
  push_cast
  rfl

/-- A sum over no position. -/
theorem binSum_empty (lo hi : ℤ) (h : hi ≤ lo) (g : ℕ → EReal) : binSum lo hi g = 0 :=
  Finset.sum_eq_zero fun r _ => if_neg (by omega)

/-- The word the kernel counts in, where the difference does not wrap around. -/
theorem count_word (lo hi : BitVec 32) (h : -2147483648 ≤ min hi.toInt 1024 - max lo.toInt 0) :
    (IntOp.maxsi (0#32) (IntOp.subi (IntOp.minsi hi 1024#32) (IntOp.maxsi lo 0#32))).toInt = max 0 (min hi.toInt 1024 - max lo.toInt 0) := by
  have e0 : (0#32).toInt = 0 := by decide
  have e1 : (1024#32).toInt = 1024 := by decide
  have hmin : (IntOp.minsi hi 1024#32).toInt = min hi.toInt 1024 := by
    unfold IntOp.minsi
    rw [BitVec.slt_eq_decide, e1]
    by_cases hx : hi.toInt < 1024
    · simp [hx]; omega
    · simp [hx]; omega
  have hmax : ∀ x : BitVec 32, (IntOp.maxsi x 0#32).toInt = max x.toInt 0 := fun x => by
    unfold IntOp.maxsi
    rw [BitVec.slt_eq_decide, e0]
    by_cases hz : 0 < x.toInt
    · simp [hz]; omega
    · simp [hz]; omega
  have hmax' : ∀ x : BitVec 32, (IntOp.maxsi 0#32 x).toInt = max 0 x.toInt := fun x => by
    unfold IntOp.maxsi
    rw [BitVec.slt_eq_decide, e0]
    by_cases hx : x.toInt < 0
    · simp [hx]; omega
    · by_cases hz : 0 < x.toInt
      · simp [hx, hz]; omega
      · simp [hx, hz]; omega
  have hl := BitVec.toInt_lt (x := lo)
  rw [hmax']
  show max 0 ((IntOp.minsi hi 1024#32) - (IntOp.maxsi lo 0#32)).toInt = _
  rw [BitVec.toInt_sub, hmin, hmax, Int.bmod_eq_of_le (by omega) (by omega)]

/-- The kernel's count of a bin. -/
theorem counts_apply (lo hi : IContents S7 32) (k : Fin 7)
    (h : -2147483648 ≤ min (hi (ix1 k)).toInt 1024 - max (lo (ix1 k)).toInt 0) :
    counts (F := Ideal) lo hi (ix1 k) = binSum (lo (ix1 k)).toInt (hi (ix1 k)).toInt (fun _ => (1 : EReal)) := by
  rw [binSum_one, ← count_word _ _ h]
  unfold counts
  pointwise
  rfl

/-! ## The masks -/

/-- The mask of a bin at a position. -/
theorem masks_apply (lo hi : FContents Ideal S7 .f32) (k : Fin 7) (hl : Whole (lo (ix1 k))) (hh : Whole (hi (ix1 k))) (r : Fin 1024) :
    masks (F := Ideal) lo hi (ix2 k r) = if clampZ (lo (ix1 k)) ≤ (r.val : ℤ) ∧ (r.val : ℤ) < clampZ (hi (ix1 k)) then (1 : EReal) else 0 := by
  unfold masks positions perPosition
  pointwise
  have er : (FloatOps.sitofp (F := Ideal) FTy.f32 (BitVec.ofNat 32 r.val)) = ((r.val : ℝ) : EReal) := by
    have e : (BitVec.ofNat 32 r.val).toInt = r.val := by
      have hr := r.isLt
      rw [BitVec.toInt_eq_toNat_of_lt (by rw [BitVec.toNat_ofNat]; omega), BitVec.toNat_ofNat]; omega
    show (((BitVec.ofNat 32 r.val).toInt : ℝ) : EReal) = _
    rw [e]; push_cast; rfl
  rw [er, decide_eq_decide.mpr (clampZ_le_iff hl r.val r.isLt), decide_eq_decide.mpr (lt_clampZ_iff hh r.val r.isLt)]
  by_cases h1 : clampZ (lo (ix1 k)) ≤ (r.val : ℤ)
  · by_cases h2 : (r.val : ℤ) < clampZ (hi (ix1 k))
    · rw [if_pos ⟨h1, h2⟩, decide_eq_true h1, decide_eq_true h2]
      show ((((IntOp.andi (BitVec.ofBool true) (BitVec.ofBool true)).toNat : ℕ) : ℝ) : EReal) = 1
      rw [show (IntOp.andi (BitVec.ofBool true) (BitVec.ofBool true)).toNat = 1 by decide]
      norm_num
    · rw [if_neg (fun h => h2 h.2), decide_eq_true h1, decide_eq_false h2]
      show ((((IntOp.andi (BitVec.ofBool true) (BitVec.ofBool false)).toNat : ℕ) : ℝ) : EReal) = 0
      rw [show (IntOp.andi (BitVec.ofBool true) (BitVec.ofBool false)).toNat = 0 by decide]
      norm_num
  · rw [if_neg (fun h => h1 h.1), decide_eq_false h1]
    have e : ∀ b : Bool, (IntOp.andi (BitVec.ofBool false) (BitVec.ofBool b)).toNat = 0 := by decide
    show ((((IntOp.andi (BitVec.ofBool false) (BitVec.ofBool _)).toNat : ℕ) : ℝ) : EReal) = 0
    rw [e]
    norm_num

/-- The reference's count of a bin. -/
theorem sizes_apply (lo hi : FContents Ideal S7 .f32) (k : Fin 7) (hl : Whole (lo (ix1 k))) (hh : Whole (hi (ix1 k))) :
    sizes (F := Ideal) (masks lo hi) (ix1 k) = binSum (clampZ (lo (ix1 k))) (clampZ (hi (ix1 k))) (fun _ => (1 : EReal)) := by
  unfold sizes
  pointwise
  exact Finset.sum_congr rfl fun r _ => masks_apply lo hi k hl hh r

/-- A sum weighted by a mask is the sum over the bin's positions. -/
theorem sum_masks (lo hi : FContents Ideal S7 .f32) (k : Fin 7) (hl : Whole (lo (ix1 k))) (hh : Whole (hi (ix1 k))) (g : ℕ → EReal) :
    (∑ r : Fin 1024, g r.val * masks (F := Ideal) lo hi (ix2 k r) : EReal) = binSum (clampZ (lo (ix1 k))) (clampZ (hi (ix1 k))) g := by
  unfold binSum
  refine Finset.sum_congr rfl fun r _ => ?_
  rw [masks_apply lo hi k hl hh r]
  split_ifs
  · exact mul_one _
  · exact mul_zero _

/-- The reference's sum of a bin. -/
theorem sums_apply (x : FContents Ideal S49x1024x1024 .f32) (li hi lj hj : FContents Ideal S7 .f32) (a b : Fin 7)
    (hi1 : Whole (li (ix1 a))) (hi2 : Whole (hi (ix1 a))) (hj1 : Whole (lj (ix1 b))) (hj2 : Whole (hj (ix1 b))) :
    sums (F := Ideal) x (masks li hi) (masks lj hj) (ix2 a b)
      = binSum (clampZ (lj (ix1 b))) (clampZ (hj (ix1 b))) (fun s => binSum (clampZ (li (ix1 a))) (clampZ (hi (ix1 a))) (fun r => imgAt (F := Ideal) x (a.val * 7 + b.val) r s)) := by
  rw [← sum_masks lj hj b hj1 hj2]
  unfold sums
  pointwise
  refine Finset.sum_congr rfl fun s _ => ?_
  rw [← sum_masks li hi a hi1 hi2]
  congr 1
  refine Finset.sum_congr rfl fun r _ => ?_
  congr 1
  unfold imgAt
  congr 1
  have ha := a.isLt
  have hb := b.isLt
  have hr := r.isLt
  have hs := s.isLt
  congr 1 <;> refine Fin.ext ?_
  · exact (Nat.mod_eq_of_lt (by omega)).symm
  · exact (Nat.mod_eq_of_lt hr).symm
  · exact (Nat.mod_eq_of_lt hs).symm

/-! ## The two means -/

/-- The mean, element by element. -/
theorem meanOf_apply (s : FContents Ideal S7x7 .f32) (ni nj : FContents Ideal S7 .f32) (j : S_.Idx) :
    meanOf s ni nj j = Ideal.div (∑ a : Fin 7, ∑ b : Fin 7, Ideal.div (s (ix2 a b)) (ni (ix1 a) * nj (ix1 b))) (Ideal.ofBits FTy.f32 1111752704#32) := by
  unfold meanOf
  pointwise

/-- A sum with a term of minus infinity. -/
theorem sum_bot {ι : Type} [Fintype ι] [DecidableEq ι] (f : ι → EReal) (i : ι) (h : f i = ⊥) : ∑ j, f j = ⊥ := by
  rw [← Finset.add_sum_erase _ f (Finset.mem_univ i), h, EReal.bot_add]

/-- Counts of one direction that differ only where that does not matter: they are the same, or some bin is empty on both
    sides. -/
def Alike (n n' : Fin 7 → EReal) (empty : Fin 7 → Prop) : Prop := (∀ k, n k = n' k) ∨ ∃ k, n k = 0 ∧ n' k = 0 ∧ empty k

/-- Means of the same sums over counts that differ only where that does not matter. -/
theorem means_eq (s : Fin 7 → Fin 7 → EReal) (ni ni' nj nj' : Fin 7 → EReal)
    (hi : Alike ni ni' (fun a => ∀ b, s a b = 0)) (hj : Alike nj nj' (fun b => ∀ a, s a b = 0)) :
    (∑ a : Fin 7, ∑ b : Fin 7, Ideal.div (s a b) (ni a * nj b)) = ∑ a : Fin 7, ∑ b : Fin 7, Ideal.div (s a b) (ni' a * nj' b) := by
  have h0 : Ideal.div 0 0 = ⊥ := by unfold Ideal.div; simp
  rcases hi with hi | ⟨a, h1, h2, h3⟩
  · rcases hj with hj | ⟨b, h1, h2, h3⟩
    · simp only [hi, hj]
    · rw [sum_bot _ 0 (sum_bot _ b (by rw [h3, h1, mul_zero, h0])), sum_bot _ 0 (sum_bot _ b (by rw [h3, h2, mul_zero, h0]))]
  · rw [sum_bot _ a (sum_bot _ 0 (by rw [h3, h1, zero_mul, h0])), sum_bot _ a (sum_bot _ 0 (by rw [h3, h2, zero_mul, h0]))]

@[inherit_doc means_eq]
theorem meanOf_congr (s s' : FContents Ideal S7x7 .f32) (ni ni' nj nj' : FContents Ideal S7 .f32) (hs : ∀ a b, s (ix2 a b) = s' (ix2 a b))
    (hi : Alike (fun k => ni (ix1 k)) (fun k => ni' (ix1 k)) (fun a => ∀ b : Fin 7, s' (ix2 a b) = 0))
    (hj : Alike (fun k => nj (ix1 k)) (fun k => nj' (ix1 k)) (fun b => ∀ a : Fin 7, s' (ix2 a b) = 0)) :
    meanOf s ni nj = meanOf s' ni' nj' := by
  funext j
  rw [meanOf_apply, meanOf_apply]
  simp only [hs]
  exact congrArg (Ideal.div · _) (means_eq (fun a b => s' (ix2 a b)) _ _ _ _ hi hj)

/-- The kernel's and the reference's counts of one direction. -/
theorem counts_alike (lo hi : FContents Ideal S7 .f32) (h : Spans (fun k => lo (ix1 k)) (fun k => hi (ix1 k))) (empty : Fin 7 → Prop)
    (he : ∀ k, clampZ (hi (ix1 k)) ≤ clampZ (lo (ix1 k)) → empty k) :
    Alike (fun k => counts (F := Ideal) (fptosi 32 lo) (fptosi 32 hi) (ix1 k)) (fun k => sizes (F := Ideal) (masks lo hi) (ix1 k)) empty := by
  have hl : ∀ k : Fin 7, ((fptosi 32 lo : IContents S7 32) (ix1 k)).toInt = clampZ (lo (ix1 k)) := fun k => toInt_fptosi _
  have hh : ∀ k : Fin 7, ((fptosi 32 hi : IContents S7 32) (ix1 k)).toInt = clampZ (hi (ix1 k)) := fun k => toInt_fptosi _
  have key : ∀ k : Fin 7, -2147483648 ≤ min (clampZ (hi (ix1 k))) 1024 - max (clampZ (lo (ix1 k))) 0 →
      counts (F := Ideal) (fptosi 32 lo) (fptosi 32 hi) (ix1 k) = sizes (F := Ideal) (masks lo hi) (ix1 k) := fun k hk => by
    rw [sizes_apply lo hi k (h.whole k).1 (h.whole k).2, counts_apply _ _ k (by rw [hl, hh]; exact hk), hl, hh]
  rcases h.counts with hk | ⟨k, hk, hz⟩
  · exact Or.inl fun k => key k (hk k)
  · refine Or.inr ⟨k, ?_, ?_, he k hz⟩
    · exact (key k hk).trans ((sizes_apply lo hi k (h.whole k).1 (h.whole k).2).trans (binSum_empty _ _ hz _))
    · exact (sizes_apply lo hi k (h.whole k).1 (h.whole k).2).trans (binSum_empty _ _ hz _)

/-! ## The results -/

variable (m : (ℓ : Loc nD τ sig) → Buf (Elt Ideal) ℓ)

/-- The launch's sum of a bin. -/
theorem binSums_apply (hO : Ok m) (c : Dev nD) (a b : Fin 7)
    (hr : ∀ q : Fin 7, (rowHi (regOf m c) (ix1 q)).toInt - (rowLo (regOf m c) (ix1 q)).toInt ≤ 129)
    (hc : ∀ q : Fin 7, (colHi (regOf m c) (ix1 q)).toInt - (colLo (regOf m c) (ix1 q)).toInt ≤ 129) :
    binSums (outArr m hO c) (ix2 a b) = binSum (colLo (regOf m c) (ix1 b)).toInt (colHi (regOf m c) (ix1 b)).toInt (fun s =>
      binSum (rowLo (regOf m c) (ix1 a)).toInt (rowHi (regOf m c) (ix1 a)).toInt (fun r => imgAt (F := Ideal) (imgOf m c) (a.val * 7 + b.val) r s)) := by
  have ha := a.isLt
  have hb := b.isLt
  unfold binSums
  pointwise
  rw [outArr_eq]
  have e := lastAt_apply m hO c ⟨a.val * 7 + b.val, by omega⟩ (ix3 0 0 0) hr hc
  simp only [show (⟨(a.val * 7 + b.val) / 7, by omega⟩ : Fin 7) = a from Fin.ext (by show (a.val * 7 + b.val) / 7 = a.val; omega),
    show (⟨(a.val * 7 + b.val) % 7, by omega⟩ : Fin 7) = b from Fin.ext (by show (a.val * 7 + b.val) % 7 = b.val; omega)] at e
  exact e

/-- The result of the kernel is the reference's mean of the same arguments. -/
theorem result_eq (hO : Ok m) (c : Dev nD)
    (hh : height (F := Ideal) (regOf m c) Idealize.ShloMosaic.ix0 ≤ ((7 / 8 : ℝ) : EReal))
    (hw : width (F := Ideal) (regOf m c) Idealize.ShloMosaic.ix0 ≤ ((7 / 8 : ℝ) : EReal)) :
    let mi := masks (F := Ideal) (lowBins (midRow (regOf m c)) (height (regOf m c))) (highBins (midRow (regOf m c)) (height (regOf m c)))
    let mj := masks (F := Ideal) (lowBins (midCol (regOf m c)) (width (regOf m c))) (highBins (midCol (regOf m c)) (width (regOf m c)))
    endsAt m hO c main_v86 = meanOf (sums (imgOf m c) mi mj) (sizes mi) (sizes mj) := by
  intro mi mj
  have si := spans_bins (midRow (regOf m c)) (height (regOf m c)) hh
  have sj := spans_bins (midCol (regOf m c)) (width (regOf m c)) hw
  have li : ∀ k : Fin 7, (rowLo (regOf m c) (ix1 k)).toInt = clampZ (lowBins (F := Ideal) (midRow (regOf m c)) (height (regOf m c)) (ix1 k)) := fun k => toInt_fptosi _
  have hi : ∀ k : Fin 7, (rowHi (regOf m c) (ix1 k)).toInt = clampZ (highBins (F := Ideal) (midRow (regOf m c)) (height (regOf m c)) (ix1 k)) := fun k => toInt_fptosi _
  have lj : ∀ k : Fin 7, (colLo (regOf m c) (ix1 k)).toInt = clampZ (lowBins (F := Ideal) (midCol (regOf m c)) (width (regOf m c)) (ix1 k)) := fun k => toInt_fptosi _
  have hj : ∀ k : Fin 7, (colHi (regOf m c) (ix1 k)).toInt = clampZ (highBins (F := Ideal) (midCol (regOf m c)) (width (regOf m c)) (ix1 k)) := fun k => toInt_fptosi _
  have hs : ∀ a b : Fin 7, binSums (outArr m hO c) (ix2 a b) = sums (F := Ideal) (imgOf m c) mi mj (ix2 a b) := fun a b => by
    rw [binSums_apply m hO c a b (fun q => by rw [li, hi]; exact si.short q) (fun q => by rw [lj, hj]; exact sj.short q),
      sums_apply _ _ _ _ _ a b (si.whole a).1 (si.whole a).2 (sj.whole b).1 (sj.whole b).2, li, hi, lj, hj]
  have hs0i : ∀ a : Fin 7, clampZ (highBins (F := Ideal) (midRow (regOf m c)) (height (regOf m c)) (ix1 a)) ≤ clampZ (lowBins (F := Ideal) (midRow (regOf m c)) (height (regOf m c)) (ix1 a)) →
      ∀ b : Fin 7, sums (F := Ideal) (imgOf m c) mi mj (ix2 a b) = 0 := fun a h b => by
    rw [sums_apply _ _ _ _ _ a b (si.whole a).1 (si.whole a).2 (sj.whole b).1 (sj.whole b).2]
    refine Finset.sum_eq_zero fun s _ => ?_
    beta_reduce
    rw [binSum_empty _ _ h, ite_self]
  have hs0j : ∀ b : Fin 7, clampZ (highBins (F := Ideal) (midCol (regOf m c)) (width (regOf m c)) (ix1 b)) ≤ clampZ (lowBins (F := Ideal) (midCol (regOf m c)) (width (regOf m c)) (ix1 b)) →
      ∀ a : Fin 7, sums (F := Ideal) (imgOf m c) mi mj (ix2 a b) = 0 := fun b h a => by
    rw [sums_apply _ _ _ _ _ a b (si.whole a).1 (si.whole a).2 (sj.whole b).1 (sj.whole b).2]
    exact binSum_empty _ _ h _
  rw [endsAt_v86, V_v28, V_v35, V_v42, V_v49]
  exact meanOf_congr _ _ _ _ _ _ hs (counts_alike _ _ si _ hs0i) (counts_alike _ _ sj _ hs0j)

end Cert.KernelIdeal.Gen
-- ==== Proof.lean ====
/-
  The proof of `Cert.Claim`: the frames of the kernel, of its idealization and of the reference, and that the
  idealization and the reference return the same for a region at most 7/8 high and 7/8 wide.
-/
module

public import proofs.«01_k».proof.Defs
public import proofs.«01_k».proof.Proof.Same
public import proofs.«01_k».proof.Proof.Equal
public import proofs.«01_k».proof.Pre_bins_span_two_blocks
public import Idealize.ShloMosaic.Lib.Quiescent

@[expose] public section

set_option maxRecDepth 16384

noncomputable section

namespace Cert.Proof

open Idealize.ShloMosaic Idealize.ShloMosaic.TcCoe Idealize.SL.Sem
open Cert.KernelIdeal.Gen (FContents height width)

/-- The frame of the reference: every execution ends, with the arguments unchanged and every semaphore counter at zero. -/
theorem reference_frame : Cert.quiescent_ReferenceIdeal (hReferenceIdeal := Cert.ReferenceIdeal.Gen.facts) := fun m ρ _ =>
  (θ_run _ _ _).mono (fun r h => ⟨fun c => ⟨(h c).2.1, (h c).2.2⟩, sem_eq_zero_of_no_sems (by decide) r.2⟩)
    (Cert.ReferenceIdeal.Value.run m ρ)

/-- The shapes of the precondition's operations fit. -/
instance pre_facts : Cert.Pre_bins_span_two_blocks.Facts where
  slices_S4_S1_2 := by decide
  shapeCasts_S1_S_ := by decide
  slices_S4_S1_3 := by decide

/-- Where the precondition holds the region is at most 7/8 high and 7/8 wide. -/
theorem region_small (x : FContents Ideal Cert.KernelIdeal.S49x1024x1024 .f32) (reg : FContents Ideal Cert.KernelIdeal.S4 .f32)
    (h : Cert.Pre_bins_span_two_blocks.fn (F := Ideal) x reg = fun _ => 1#1) :
    height reg Idealize.ShloMosaic.ix0 ≤ ((7 / 8 : ℝ) : EReal) ∧ width reg Idealize.ShloMosaic.ix0 ≤ ((7 / 8 : ℝ) : EReal) := by
  have e := congrFun h Idealize.ShloMosaic.ix0
  have e1 : IntOp.andi (BitVec.ofBool (decide (height reg Idealize.ShloMosaic.ix0 ≤ Ideal.ofBits .f32 0x3F600000#32)))
      (BitVec.ofBool (decide (width reg Idealize.ShloMosaic.ix0 ≤ Ideal.ofBits .f32 0x3F600000#32))) = 1#1 := e
  rw [Cert.KernelIdeal.Gen.const_seven_eighths] at e1
  have key : ∀ a b : Bool, IntOp.andi (BitVec.ofBool a) (BitVec.ofBool b) = 1#1 → a = true ∧ b = true := by decide
  exact ⟨of_decide_eq_true (key _ _ e1).1, of_decide_eq_true (key _ _ e1).2⟩

/-- The kernel at the extended reals and the reference return the same, from the same arguments. -/
theorem same_results : Cert.algebraic_KernelIdeal_ReferenceIdeal_pre_bins_span_two_blocks (hKernelIdeal := Cert.KernelIdeal.Gen.facts)
    (hReferenceIdeal := Cert.ReferenceIdeal.Gen.facts) (hPre_bins_span_two_blocks := pre_facts) := fun m g m' g' hpre hargs => by
  refine ⟨fun c => Cert.KernelIdeal.Gen.endsAt m (Cert.KernelIdeal.Gen.ok_table m) c Cert.KernelIdeal.main_v86,
    (θ_run _ _ _).mono (fun r h => h.1) (Cert.KernelIdeal.Gen.run_result m g (Cert.KernelIdeal.Gen.ok_table m)),
    (θ_run _ _ _).mono (fun r h c => ⟨(h c).1.trans ?_, (h c).2⟩) (Cert.ReferenceIdeal.Value.run m' g')⟩
  obtain ⟨hh, hw⟩ := region_small _ _ (hpre c)
  have e := Cert.ReferenceIdeal.Value.result_eq m' c
  rw [(hargs c).1, (hargs c).2] at e
  exact e.trans (Cert.KernelIdeal.Gen.result_eq m _ c hh hw).symm

/-- Everything that the certificate claims. -/
theorem claim : Cert.Claim := ⟨Cert.Kernel.Gen.facts, Cert.KernelIdeal.Gen.facts, Cert.ReferenceIdeal.Gen.facts, pre_facts,
  fun m ρ _ => Cert.Kernel.Gen.run_frame m ρ, fun m ρ _ => Cert.KernelIdeal.Gen.run_frame m ρ, fun m ρ _ => Cert.KernelIdeal.Gen.run_frame m ρ,
  reference_frame, fun m ρ _ => reference_frame m ρ trivial, trivial, same_results⟩

end Cert.Proof

end
